-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S2560x6144 : Shape := ⟨2, ![2560, 6144]⟩
abbrev S4 : Shape := ⟨1, ![4]⟩
abbrev S4x3072x2816 : Shape := ⟨3, ![4, 3072, 2816]⟩
abbrev S4x48x2816 : Shape := ⟨3, ![4, 48, 2816]⟩
abbrev S_ : Shape := ⟨0, ![]⟩
abbrev S1 : Shape := ⟨1, ![1]⟩

class Facts : Prop where
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn_part1 {F : FTy → Type} [FloatOps F] (main_v3 : IVec S4 32) (main_v14 : IVec S_ 32) (main_v16 : IVec S4 1) (main_v17 : IVec S_ 1) (main_v18 : IVec S_ 1) : IVec S4 1 × IVec S_ 1 × IVec S_ 1 × IVec S_ 1 × IVec S4 1 × IVec S4 1 :=
  let main_c_4 : IVec S_ 32 := constantI S_ 32 0#32
  let main_v19 : IVec S_ 1 := cmpi .sge main_v14 main_c_4
  let main_c_5 : IVec S_ 32 := constantI S_ 32 1#32
  let main_v20 : IVec S4 32 := broadcastInDim S4 ![] bcast_S_S4 main_c_5
  let main_v21 : IVec S4 1 := cmpi .sge main_v3 main_v20
  let main_c_6 : IVec S_ 32 := constantI S_ 32 253#32
  let main_v22 : IVec S4 32 := broadcastInDim S4 ![] bcast_S_S4 main_c_6
  let main_v23 : IVec S4 1 := cmpi .sle main_v3 main_v22
  (main_v16, main_v17, main_v18, main_v19, main_v21, main_v23)

def fn {F : FTy → Type} [FloatOps F] (main_arg0 : FVec F S2560x6144 .bf16) (main_arg1 : IVec S4 32) (main_arg2 : IVec S4x3072x2816 8) (main_arg3 : FVec F S4x48x2816 .f32) (main_arg4 : IVec S4 32) : IVec S4 1 × IVec S_ 1 × IVec S_ 1 × IVec S_ 1 × IVec S4 1 × IVec S4 1 :=
  let main_c : IVec S_ 32 := constantI S_ 32 23#32
  let main_v0 : IVec S4 32 := broadcastInDim S4 ![] bcast_S_S4 main_c
  let main_v1 : IVec S4 32 := Host.shrsi main_arg4 main_v0
  let main_c_0 : IVec S_ 32 := constantI S_ 32 255#32
  let main_v2 : IVec S4 32 := broadcastInDim S4 ![] bcast_S_S4 main_c_0
  let main_v3 : IVec S4 32 := andi main_v1 main_v2
  let main_v4 : IVec S1 32 := (extractStridedSlice S1 ![0] · slices_S4_S1_0) main_arg1
  let main_v5 : IVec S_ 32 := shapeCast S_ main_v4 shapeCasts_S1_S_
  let main_v6 : IVec S1 32 := (extractStridedSlice S1 ![1] · slices_S4_S1_1) main_arg1
  let main_v7 : IVec S_ 32 := shapeCast S_ main_v6 shapeCasts_S1_S_
  let main_v8 : IVec S_ 32 := addi main_v5 main_v7
  let main_v9 : IVec S1 32 := (extractStridedSlice S1 ![2] · slices_S4_S1_2) main_arg1
  let main_v10 : IVec S_ 32 := shapeCast S_ main_v9 shapeCasts_S1_S_
  let main_v11 : IVec S_ 32 := addi main_v8 main_v10
  let main_v12 : IVec S1 32 := (extractStridedSlice S1 ![3] · slices_S4_S1_3) main_arg1
  let main_v13 : IVec S_ 32 := shapeCast S_ main_v12 shapeCasts_S1_S_
  let main_v14 : IVec S_ 32 := addi main_v11 main_v13
  let main_c_1 : IVec S_ 32 := constantI S_ 32 0#32
  let main_v15 : IVec S4 32 := broadcastInDim S4 ![] bcast_S_S4 main_c_1
  let main_v16 : IVec S4 1 := cmpi .sge main_arg1 main_v15
  let main_c_2 : IVec S_ 32 := constantI S_ 32 0#32
  let main_v17 : IVec S_ 1 := cmpi .sge main_v8 main_c_2
  let main_c_3 : IVec S_ 32 := constantI S_ 32 0#32
  let main_v18 : IVec S_ 1 := cmpi .sge main_v11 main_c_3
  fn_part1 (F := F) main_v3 main_v14 main_v16 main_v17 main_v18
-- ==== Kernel.lean ====
abbrev S2560x6144 : Shape := ⟨2, ![2560, 6144]⟩
abbrev S4 : Shape := ⟨1, ![4]⟩
abbrev S4x3072x2816 : Shape := ⟨3, ![4, 3072, 2816]⟩
abbrev S4x48x2816 : Shape := ⟨3, ![4, 48, 2816]⟩
abbrev S2560x2816 : Shape := ⟨2, ![2560, 2816]⟩
abbrev S4x3072x256 : Shape := ⟨3, ![4, 3072, 256]⟩
abbrev S4x48x256 : Shape := ⟨3, ![4, 48, 256]⟩
abbrev S256x256 : Shape := ⟨2, ![256, 256]⟩
abbrev S256x1 : Shape := ⟨2, ![256, 1]⟩
abbrev S256x6144 : Shape := ⟨2, ![256, 6144]⟩
abbrev S1 : Shape := ⟨1, ![1]⟩
abbrev S1x128x256 : Shape := ⟨3, ![1, 128, 256]⟩
abbrev S128x256 : Shape := ⟨2, ![128, 256]⟩
abbrev S32x256 : Shape := ⟨2, ![32, 256]⟩
abbrev S1x1x256 : Shape := ⟨3, ![1, 1, 256]⟩
abbrev S1x256 : Shape := ⟨2, ![1, 256]⟩
abbrev S256x128 : Shape := ⟨2, ![256, 128]⟩

abbrev nBuf : Space → Nat
  | .hbm => 6
  | .vmem => 8
  | .smem => 2
  | _ => 0

abbrev bufTy : (tb : Table) → Fin (tcTables nBuf tb) → BufTy
  | .hbm, ⟨0, _⟩ => ⟨S2560x6144, .bf16⟩
  | .hbm, ⟨1, _⟩ => ⟨S4, .i32⟩
  | .hbm, ⟨2, _⟩ => ⟨S4x3072x2816, .i8⟩
  | .hbm, ⟨3, _⟩ => ⟨S4x48x2816, .f32⟩
  | .hbm, ⟨4, _⟩ => ⟨S4, .i32⟩
  | .hbm, ⟨5, _⟩ => ⟨S2560x2816, .bf16⟩
  | .local _ .vmem, ⟨0, _⟩ => ⟨S2560x6144, .bf16⟩
  | .local _ .vmem, ⟨1, _⟩ => ⟨S4x3072x256, .i8⟩
  | .local _ .vmem, ⟨2, _⟩ => ⟨S4x3072x256, .i8⟩
  | .local _ .vmem, ⟨3, _⟩ => ⟨S4x48x256, .f32⟩
  | .local _ .vmem, ⟨4, _⟩ => ⟨S4x48x256, .f32⟩
  | .local _ .vmem, ⟨5, _⟩ => ⟨S256x256, .bf16⟩
  | .local _ .vmem, ⟨6, _⟩ => ⟨S256x256, .bf16⟩
  | .local _ .vmem, ⟨7, _⟩ => ⟨S256x256, .f32⟩
  | .local _ .smem, ⟨0, _⟩ => ⟨S4, .i32⟩
  | .local _ .smem, ⟨1, _⟩ => ⟨S4, .i32⟩
  | _, _ => ⟨S2560x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![11, 10], ![false, false]⟩

def k0_off1 (i : grid0.Coords) : Fin 2 → Nat :=
  let arg1 : BitVec 32 := BitVec.ofNat 32 (i 1).val
  let c256_i32 : BitVec 32 := 256#32
  let v0 : BitVec 32 := Scalar.muli arg1 c256_i32
  let v4 : Index := Scalar.indexCast v0
  let c0 : Index := 0#32
  ![v4.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2560x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x3072x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x48x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2560x6144 : Shape := ⟨2, ![2560, 6144]⟩
abbrev S4 : Shape := ⟨1, ![4]⟩
abbrev S4x3072x2816 : Shape := ⟨3, ![4, 3072, 2816]⟩
abbrev S4x48x2816 : Shape := ⟨3, ![4, 48, 2816]⟩
abbrev S2560x2816 : Shape := ⟨2, ![2560, 2816]⟩
abbrev S2560x1 : Shape := ⟨2, ![2560, 1]⟩
abbrev S1 : Shape := ⟨1, ![1]⟩
abbrev S1x3072x2816 : Shape := ⟨3, ![1, 3072, 2816]⟩
abbrev S3072x2816 : Shape := ⟨2, ![3072, 2816]⟩
abbrev S1x48x2816 : Shape := ⟨3, ![1, 48, 2816]⟩
abbrev S48x2816 : Shape := ⟨2, ![48, 2816]⟩
abbrev S24x128x2816 : Shape := ⟨3, ![24, 128, 2816]⟩
abbrev S24x2816 : Shape := ⟨2, ![24, 2816]⟩
abbrev S24x1x2816 : Shape := ⟨3, ![24, 1, 2816]⟩
abbrev S2560x3072 : Shape := ⟨2, ![2560, 3072]⟩

abbrev nBuf : Space → Nat
  | .hbm => 6
  | .vmem => 4
  | .smem => 2
  | _ => 0

abbrev bufTy : (tb : Table) → Fin (tcTables nBuf tb) → BufTy
  | .hbm, ⟨0, _⟩ => ⟨S2560x6144, .bf16⟩
  | .hbm, ⟨1, _⟩ => ⟨S4, .i32⟩
  | .hbm, ⟨2, _⟩ => ⟨S4x3072x2816, .i8⟩
  | .hbm, ⟨3, _⟩ => ⟨S4x48x2816, .f32⟩
  | .hbm, ⟨4, _⟩ => ⟨S4, .i32⟩
  | .hbm, ⟨5, _⟩ => ⟨S2560x2816, .bf16⟩
  | .local _ .vmem, ⟨0, _⟩ => ⟨S2560x6144, .bf16⟩
  | .local _ .vmem, ⟨1, _⟩ => ⟨S4x3072x2816, .i8⟩
  | .local _ .vmem, ⟨2, _⟩ => ⟨S4x48x2816, .f32⟩
  | .local _ .vmem, ⟨3, _⟩ => ⟨S2560x2816, .bf16⟩
  | .local _ .smem, ⟨0, _⟩ => ⟨S4, .i32⟩
  | .local _ .smem, ⟨1, _⟩ => ⟨S4, .i32⟩
  | _, _ => ⟨S2560x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg5_0 : Ref sig .tc := ⟨.vmem, 3, rfl⟩
abbrev cc0_stg1_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2560x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3072x2816 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x48x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S4 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Body.lean ====
module

public import proofs.«01_k».proof.Proof.Gen.Kernel.Frame
public import proofs.«01_k».proof.Proof.Gen.Kernel.Skeleton
public import Idealize.ShloMosaic.Lib.VecWindow
public import Idealize.ShloMosaic.Lib.Claim

/-! The kernel's body, run once at any point of the grid, and the frame that follows: the program ends, leaves its
arguments as they were, and every output block is the value `block` of the point's input blocks. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1700000 in
/-- The run of the body on whole buffers holding `x0` (the group sizes), `x1` (the words of the activation scales),
    `x2` (the activations), `x3` (the weights), `x4` (the weight scales), with `d8` left in the accumulator by whoever
    used it last: the stores into the output block and what the accumulator holds at the end. Each of the four
    conditionals is run both ways, so one run covers every point of the grid. -/
noncomputable def bodyRun (c : Dev nD) (i : grid0.Coords) (arg2 : Memref sig .tc .smem S4 .i32) (harg2 : arg2.IsWhole) (arg3 : Memref sig .tc .smem S4 .i32) (harg3 : arg3.IsWhole) (arg4 : Memref sig .tc .vmem S2560x6144 .bf16) (harg4 : arg4.IsWhole) (arg5 : Memref sig .tc .vmem S4x3072x256 .i8) (harg5 : arg5.IsWhole) (arg6 : Memref sig .tc .vmem S4x48x256 .f32) (harg6 : arg6.IsWhole) (arg7 : Memref sig .tc .vmem S256x256 .bf16) (harg7 : arg7.IsWhole) (arg8 : Memref sig .tc .vmem S256x256 .f32) (harg8 : arg8.IsWhole)
    (x0 : Vec F S4 .i32) (x1 : Vec F S4 .i32) (x2 : Vec F S2560x6144 .bf16) (x3 : Vec F S4x3072x256 .i8) (x4 : Vec F S4x48x256 .f32) (d8 : Vec F S256x256 .f32) :
    Σ' (L5 : List (View.Piece (Elt F) S256x256 .bf16)), { LT0 : Buf (Elt F) (arg8.view.loc (c : Thread nD τ)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} LT0)) -∗ K ⟨⟩))
          ⊢ wp frame (wpE (defs₀ (F := F)) Variants.none c none) E (cc0__body i arg2 harg2 arg3 harg3 arg4 harg4 arg5 harg5 arg6 harg6 arg7 harg7 arg8 harg8) K } := by
  refine ⟨?_, ?_, fun E K => ?run⟩
  case run =>
    simp only [cc0__body_eq_skeleton]; unfold cc0__body_skel
    simp only [k0_part81_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS0

/-! ## What the accumulator and the output block hold -/

section Block

variable (c : Dev nD) (i : grid0.Coords) (arg2 : Memref sig .tc .smem S4 .i32) (harg2 : arg2.IsWhole) (arg3 : Memref sig .tc .smem S4 .i32) (harg3 : arg3.IsWhole) (arg4 : Memref sig .tc .vmem S2560x6144 .bf16) (harg4 : arg4.IsWhole) (arg5 : Memref sig .tc .vmem S4x3072x256 .i8) (harg5 : arg5.IsWhole) (arg6 : Memref sig .tc .vmem S4x48x256 .f32) (harg6 : arg6.IsWhole)
    (x0 : Vec F S4 .i32) (x1 : Vec F S4 .i32) (x2 : Vec F S2560x6144 .bf16) (x3 : Vec F S4x3072x256 .i8) (x4 : Vec F S4x48x256 .f32)

/-- A load of the whole accumulator after a store of the whole of it, made or not, reads the stored value or what was
    there before. -/
theorem load_after_guarded_store {m : Memref sig .tc .vmem S256x256 .f32} (C : Prop) [Decidable C]
    (f g : Buf (Elt F) (m.view.loc (c : Thread nD τ))) (p : Vec F S256x256 .f32) (L : List (View.Piece (Elt F) S256x256 .f32)) :
    m.view.readAt (Elt F) (Rect.unit (s := S256x256) ![0, 0] S256x256.size inb_S256x256_S256x256_0_0).toLoadRect
        (if hc : C then m.view.writes (Elt F) f (⟨Rect.unit (s := S256x256) ![0, 0] S256x256.size inb_S256x256_S256x256_0_0, p⟩ :: L) else g)
      = if C then p else m.view.readAt (Elt F) (Rect.unit (s := S256x256) ![0, 0] S256x256.size inb_S256x256_S256x256_0_0).toLoadRect g := by
  by_cases h : C
  · rw [dif_pos h, if_pos h]; exact View.readAt_writes_full _ _ _ _ _ _
  · rw [dif_neg h, if_neg h]

/-- The word of the condition under which the body takes an expert whose rows run from `start` to `stop`. -/
abbrev taken (i : grid0.Coords) (start stop : BitVec 32) : Prop :=
  Scalar.cmpi .ne (Scalar.extui (Scalar.andi (Scalar.andi
      (Scalar.cmpi .slt start (Scalar.addi (Scalar.muli (BitVec.ofNat 32 (i 1).val) 256#32) 256#32))
      (Scalar.cmpi .sgt stop (Scalar.muli (BitVec.ofNat 32 (i 1).val) 256#32)))
      (Scalar.cmpi .sgt stop start))) 0#32 = 1#1

/-- The number of rows of expert `0`, `1`, `2`, `3`, as the body reads it. -/
abbrev size0 := bodyRun.sl.r c arg2 harg2 x0
abbrev size1 := bodyRun.sl.r_71 c arg2 harg2 x0
abbrev size2 := bodyRun.sl.r_142 c arg2 harg2 x0
abbrev size3 := bodyRun.sl.r_215 c arg2 harg2 x0
/-- The row after the last of expert `0`, `1`, `2`, `3`. -/
abbrev stop0 := Scalar.addi 0#32 (size0 c arg2 harg2 x0)
abbrev stop1 := Scalar.addi (stop0 c arg2 harg2 x0) (size1 c arg2 harg2 x0)
abbrev stop2 := Scalar.addi (stop1 c arg2 harg2 x0) (size2 c arg2 harg2 x0)
abbrev stop3 := Scalar.addi (stop2 c arg2 harg2 x0) (size3 c arg2 harg2 x0)

/-- The accumulator before the first expert: zero. -/
def acc0 : Vec F S256x256 .f32 := k0_pay337
/-- The accumulator after expert `0`. -/
def acc1 : Vec F S256x256 .f32 :=
  if taken i 0#32 (stop0 c arg2 harg2 x0) then
    k0_pay338 i (size0 c arg2 harg2 x0) (bodyRun.sl.r_70 c i arg3 harg3 arg4 harg4 arg5 harg5 arg6 harg6 x1 x2 x3 x4) (bodyRun.sl.r_1 c arg3 harg3 x1) acc0
  else acc0
/-- The accumulator after expert `1`. -/
def acc2 : Vec F S256x256 .f32 :=
  if taken i (stop0 c arg2 harg2 x0) (stop1 c arg2 harg2 x0) then
    k0_pay339 i (size0 c arg2 harg2 x0) (size1 c arg2 harg2 x0) (bodyRun.sl.r_141 c i arg3 harg3 arg4 harg4 arg5 harg5 arg6 harg6 x1 x2 x3 x4) (bodyRun.sl.r_72 c arg3 harg3 x1) (acc1 c i arg2 harg2 arg3 harg3 arg4 harg4 arg5 harg5 arg6 harg6 x0 x1 x2 x3 x4)
  else acc1 c i arg2 harg2 arg3 harg3 arg4 harg4 arg5 harg5 arg6 harg6 x0 x1 x2 x3 x4
/-- The accumulator after expert `2`. -/
def acc3 : Vec F S256x256 .f32 :=
  if taken i (stop1 c arg2 harg2 x0) (stop2 c arg2 harg2 x0) then
    k0_pay1 (k0_pay336 i) (stop1 c arg2 harg2 x0) (stop2 c arg2 harg2 x0) (bodyRun.sl.r_213 c i arg3 harg3 arg4 harg4 arg5 harg5 arg6 harg6 x1 x2 x3 x4) (bodyRun.sl.r_214 c arg3 harg3 x1) (acc2 c i arg2 harg2 arg3 harg3 arg4 harg4 arg5 harg5 arg6 harg6 x0 x1 x2 x3 x4)
  else acc2 c i arg2 harg2 arg3 harg3 arg4 harg4 arg5 harg5 arg6 harg6 x0 x1 x2 x3 x4
/-- The accumulator after expert `3`. -/
def acc4 : Vec F S256x256 .f32 :=
  if taken i (stop2 c arg2 harg2 x0) (stop3 c arg2 harg2 x0) then
    k0_pay2 (k0_pay336 i) (stop2 c arg2 harg2 x0) (size3 c arg2 harg2 x0) (bodyRun.sl.r_285 c i arg3 harg3 arg4 harg4 arg5 harg5 arg6 harg6 x1 x2 x3 x4) (bodyRun.sl.r_286 c arg3 harg3 x1) (acc3 c i arg2 harg2 arg3 harg3 arg4 harg4 arg5 harg5 arg6 harg6 x0 x1 x2 x3 x4)
  else acc3 c i arg2 harg2 arg3 harg3 arg4 harg4 arg5 harg5 arg6 harg6 x0 x1 x2 x3 x4
/-- The output block: the accumulator after the last expert, in the output's format. -/
def block : Vec F S256x256 .bf16 := k0_pay3 (acc4 c i arg2 harg2 arg3 harg3 arg4 harg4 arg5 harg5 arg6 harg6 x0 x1 x2 x3 x4)

variable (arg8 : Memref sig .tc .vmem S256x256 .f32) (harg8 : arg8.IsWhole)
  (d8 : Vec F S256x256 .f32)

theorem load0 : bodyRun.sl.v870 c arg8 = (acc0 : Vec F S256x256 .f32) := by
  unfold bodyRun.sl.v870 bodyRun.sl.HS0_1 acc0
  exact View.readCov_full _ _ _ _ _

theorem load1 : bodyRun.sl.v870_1 c i arg2 harg2 arg3 harg3 arg4 harg4 arg5 harg5 arg6 harg6 arg8 harg8 x0 x1 x2 x3 x4 d8 = acc1 c i arg2 harg2 arg3 harg3 arg4 harg4 arg5 harg5 arg6 harg6 x0 x1 x2 x3 x4 := by
  unfold bodyRun.sl.v870_1
  rw [load_after_guarded_store, load0]
  unfold acc1 acc0 bodyRun.sl.HS0_1
  rw [View.readAt_writes_full]
  rfl

theorem load2 : bodyRun.sl.v870_2 c i arg2 harg2 arg3 harg3 arg4 harg4 arg5 harg5 arg6 harg6 arg8 harg8 x0 x1 x2 x3 x4 d8 = acc2 c i arg2 harg2 arg3 harg3 arg4 harg4 arg5 harg5 arg6 harg6 x0 x1 x2 x3 x4 := by
  unfold bodyRun.sl.v870_2
  refine (load_after_guarded_store c _ _ _ _ _).trans ?_
  unfold acc2
  rw [← load1 c i arg2 harg2 arg3 harg3 arg4 harg4 arg5 harg5 arg6 harg6 x0 x1 x2 x3 x4 arg8 harg8 d8]
  refine if_congr Iff.rfl ?_ ?_
  · rfl
  · rfl

theorem load3 : bodyRun.sl.v870_3 c i arg2 harg2 arg3 harg3 arg4 harg4 arg5 harg5 arg6 harg6 arg8 harg8 x0 x1 x2 x3 x4 d8 = acc3 c i arg2 harg2 arg3 harg3 arg4 harg4 arg5 harg5 arg6 harg6 x0 x1 x2 x3 x4 := by
  unfold bodyRun.sl.v870_3
  refine (load_after_guarded_store c _ _ _ _ _).trans ?_
  unfold acc3
  rw [← load2 c i arg2 harg2 arg3 harg3 arg4 harg4 arg5 harg5 arg6 harg6 x0 x1 x2 x3 x4 arg8 harg8 d8]
  refine if_congr Iff.rfl ?_ ?_
  · rfl
  · rfl

theorem load4 : bodyRun.sl.v50 c i arg2 harg2 arg3 harg3 arg4 harg4 arg5 harg5 arg6 harg6 arg8 harg8 x0 x1 x2 x3 x4 d8 = acc4 c i arg2 harg2 arg3 harg3 arg4 harg4 arg5 harg5 arg6 harg6 x0 x1 x2 x3 x4 := by
  unfold bodyRun.sl.v50
  refine (load_after_guarded_store c _ _ _ _ _).trans ?_
  unfold acc4
  rw [← load3 c i arg2 harg2 arg3 harg3 arg4 harg4 arg5 harg5 arg6 harg6 x0 x1 x2 x3 x4 arg8 harg8 d8]
  refine if_congr Iff.rfl ?_ ?_
  · rfl
  · rfl

/-- The body's store into the output block is `block`, whatever either buffer held before. -/
theorem run_block (arg7 : Memref sig .tc .vmem S256x256 .bf16) (harg7 : arg7.IsWhole) (f : Buf (Elt F) (arg7.view.loc (c : Thread nD τ))) :
    arg7.view.read (Elt F) (arg7.view.writes (Elt F) f (bodyRun c i arg2 harg2 arg3 harg3 arg4 harg4 arg5 harg5 arg6 harg6 arg7 harg7 arg8 harg8 x0 x1 x2 x3 x4 d8).1) = block c i arg2 harg2 arg3 harg3 arg4 harg4 arg5 harg5 arg6 harg6 x0 x1 x2 x3 x4 := by
  have h : (bodyRun c i arg2 harg2 arg3 harg3 arg4 harg4 arg5 harg5 arg6 harg6 arg7 harg7 arg8 harg8 x0 x1 x2 x3 x4 d8).1
      = [⟨Rect.unit (s := S256x256) ![0, 0] S256x256.size inb_S256x256_S256x256_0_0,
          k0_pay3 (bodyRun.sl.v50 c i arg2 harg2 arg3 harg3 arg4 harg4 arg5 harg5 arg6 harg6 arg8 harg8 x0 x1 x2 x3 x4 d8)⟩] := rfl
  rw [h, load4]
  exact View.read_writes_full _ _ _ _ _

end Block

variable (m : (ℓ : Loc nD τ sig) → Buf (Elt F) ℓ) (ρ : Dev nD → PrngReg)

/-! ## The staging buffers -/

/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x3072x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x48x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output block at point `t`. -/
def blockAt (c : Dev nD) (t : Fin cfg0.N) : Vec F S256x256 .bf16 :=
  block c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `blockAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (blockAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (blockAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: it finds the inputs' blocks, leaves them, and leaves `blockAt` in the output's buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨%d8, HS0⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ (Memref.isWhole_whole _) (iblk m c 0 t) (iblk m c 1 t) (iblk m c 2 t) (iblk m c 3 t) (iblk m c 4 t) d8).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact run_block c _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.KernelIdeal.Body.lean ====
module

public import proofs.«01_k».proof.Proof.Gen.KernelIdeal.Frame
public import proofs.«01_k».proof.Proof.Gen.KernelIdeal.Skeleton
public import Idealize.ShloMosaic.Lib.VecWindow
public import Idealize.ShloMosaic.Lib.Claim

/-! The kernel's body, run once at any point of the grid, and the frame that follows: the program ends, leaves its
arguments as they were, and every output block is the value `block` of the point's input blocks. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1700000 in
/-- The run of the body on whole buffers holding `x0` (the group sizes), `x1` (the words of the activation scales),
    `x2` (the activations), `x3` (the weights), `x4` (the weight scales), with `d8` left in the accumulator by whoever
    used it last: the stores into the output block and what the accumulator holds at the end. Each of the four
    conditionals is run both ways, so one run covers every point of the grid. -/
noncomputable def bodyRun (c : Dev nD) (i : grid0.Coords) (arg2 : Memref sig .tc .smem S4 .i32) (harg2 : arg2.IsWhole) (arg3 : Memref sig .tc .smem S4 .i32) (harg3 : arg3.IsWhole) (arg4 : Memref sig .tc .vmem S2560x6144 .bf16) (harg4 : arg4.IsWhole) (arg5 : Memref sig .tc .vmem S4x3072x256 .i8) (harg5 : arg5.IsWhole) (arg6 : Memref sig .tc .vmem S4x48x256 .f32) (harg6 : arg6.IsWhole) (arg7 : Memref sig .tc .vmem S256x256 .bf16) (harg7 : arg7.IsWhole) (arg8 : Memref sig .tc .vmem S256x256 .f32) (harg8 : arg8.IsWhole)
    (x0 : Vec F S4 .i32) (x1 : Vec F S4 .i32) (x2 : Vec F S2560x6144 .bf16) (x3 : Vec F S4x3072x256 .i8) (x4 : Vec F S4x48x256 .f32) (d8 : Vec F S256x256 .f32) :
    Σ' (L5 : List (View.Piece (Elt F) S256x256 .bf16)), { LT0 : Buf (Elt F) (arg8.view.loc (c : Thread nD τ)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} LT0)) -∗ K ⟨⟩))
          ⊢ wp frame (wpE (defs₀ (F := F)) Variants.none c none) E (cc0__body i arg2 harg2 arg3 harg3 arg4 harg4 arg5 harg5 arg6 harg6 arg7 harg7 arg8 harg8) K } := by
  refine ⟨?_, ?_, fun E K => ?run⟩
  case run =>
    simp only [cc0__body_eq_skeleton]; unfold cc0__body_skel
    simp only [k0_part81_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS0

/-! ## What the accumulator and the output block hold -/

section Block

variable (c : Dev nD) (i : grid0.Coords) (arg2 : Memref sig .tc .smem S4 .i32) (harg2 : arg2.IsWhole) (arg3 : Memref sig .tc .smem S4 .i32) (harg3 : arg3.IsWhole) (arg4 : Memref sig .tc .vmem S2560x6144 .bf16) (harg4 : arg4.IsWhole) (arg5 : Memref sig .tc .vmem S4x3072x256 .i8) (harg5 : arg5.IsWhole) (arg6 : Memref sig .tc .vmem S4x48x256 .f32) (harg6 : arg6.IsWhole)
    (x0 : Vec F S4 .i32) (x1 : Vec F S4 .i32) (x2 : Vec F S2560x6144 .bf16) (x3 : Vec F S4x3072x256 .i8) (x4 : Vec F S4x48x256 .f32)

/-- A load of the whole accumulator after a store of the whole of it, made or not, reads the stored value or what was
    there before. -/
theorem load_after_guarded_store {m : Memref sig .tc .vmem S256x256 .f32} (C : Prop) [Decidable C]
    (f g : Buf (Elt F) (m.view.loc (c : Thread nD τ))) (p : Vec F S256x256 .f32) (L : List (View.Piece (Elt F) S256x256 .f32)) :
    m.view.readAt (Elt F) (Rect.unit (s := S256x256) ![0, 0] S256x256.size inb_S256x256_S256x256_0_0).toLoadRect
        (if hc : C then m.view.writes (Elt F) f (⟨Rect.unit (s := S256x256) ![0, 0] S256x256.size inb_S256x256_S256x256_0_0, p⟩ :: L) else g)
      = if C then p else m.view.readAt (Elt F) (Rect.unit (s := S256x256) ![0, 0] S256x256.size inb_S256x256_S256x256_0_0).toLoadRect g := by
  by_cases h : C
  · rw [dif_pos h, if_pos h]; exact View.readAt_writes_full _ _ _ _ _ _
  · rw [dif_neg h, if_neg h]

/-- The word of the condition under which the body takes an expert whose rows run from `start` to `stop`. -/
abbrev taken (i : grid0.Coords) (start stop : BitVec 32) : Prop :=
  Scalar.cmpi .ne (Scalar.extui (Scalar.andi (Scalar.andi
      (Scalar.cmpi .slt start (Scalar.addi (Scalar.muli (BitVec.ofNat 32 (i 1).val) 256#32) 256#32))
      (Scalar.cmpi .sgt stop (Scalar.muli (BitVec.ofNat 32 (i 1).val) 256#32)))
      (Scalar.cmpi .sgt stop start))) 0#32 = 1#1

/-- The number of rows of expert `0`, `1`, `2`, `3`, as the body reads it. -/
abbrev size0 := bodyRun.sl.r c arg2 harg2 x0
abbrev size1 := bodyRun.sl.r_71 c arg2 harg2 x0
abbrev size2 := bodyRun.sl.r_142 c arg2 harg2 x0
abbrev size3 := bodyRun.sl.r_215 c arg2 harg2 x0
/-- The row after the last of expert `0`, `1`, `2`, `3`. -/
abbrev stop0 := Scalar.addi 0#32 (size0 c arg2 harg2 x0)
abbrev stop1 := Scalar.addi (stop0 c arg2 harg2 x0) (size1 c arg2 harg2 x0)
abbrev stop2 := Scalar.addi (stop1 c arg2 harg2 x0) (size2 c arg2 harg2 x0)
abbrev stop3 := Scalar.addi (stop2 c arg2 harg2 x0) (size3 c arg2 harg2 x0)

/-- The accumulator before the first expert: zero. -/
def acc0 : Vec F S256x256 .f32 := k0_pay337
/-- The accumulator after expert `0`. -/
def acc1 : Vec F S256x256 .f32 :=
  if taken i 0#32 (stop0 c arg2 harg2 x0) then
    k0_pay338 i (size0 c arg2 harg2 x0) (bodyRun.sl.r_70 c i arg3 harg3 arg4 harg4 arg5 harg5 arg6 harg6 x1 x2 x3 x4) (bodyRun.sl.r_1 c arg3 harg3 x1) acc0
  else acc0
/-- The accumulator after expert `1`. -/
def acc2 : Vec F S256x256 .f32 :=
  if taken i (stop0 c arg2 harg2 x0) (stop1 c arg2 harg2 x0) then
    k0_pay339 i (size0 c arg2 harg2 x0) (size1 c arg2 harg2 x0) (bodyRun.sl.r_141 c i arg3 harg3 arg4 harg4 arg5 harg5 arg6 harg6 x1 x2 x3 x4) (bodyRun.sl.r_72 c arg3 harg3 x1) (acc1 c i arg2 harg2 arg3 harg3 arg4 harg4 arg5 harg5 arg6 harg6 x0 x1 x2 x3 x4)
  else acc1 c i arg2 harg2 arg3 harg3 arg4 harg4 arg5 harg5 arg6 harg6 x0 x1 x2 x3 x4
/-- The accumulator after expert `2`. -/
def acc3 : Vec F S256x256 .f32 :=
  if taken i (stop1 c arg2 harg2 x0) (stop2 c arg2 harg2 x0) then
    k0_pay1 (k0_pay336 i) (stop1 c arg2 harg2 x0) (stop2 c arg2 harg2 x0) (bodyRun.sl.r_213 c i arg3 harg3 arg4 harg4 arg5 harg5 arg6 harg6 x1 x2 x3 x4) (bodyRun.sl.r_214 c arg3 harg3 x1) (acc2 c i arg2 harg2 arg3 harg3 arg4 harg4 arg5 harg5 arg6 harg6 x0 x1 x2 x3 x4)
  else acc2 c i arg2 harg2 arg3 harg3 arg4 harg4 arg5 harg5 arg6 harg6 x0 x1 x2 x3 x4
/-- The accumulator after expert `3`. -/
def acc4 : Vec F S256x256 .f32 :=
  if taken i (stop2 c arg2 harg2 x0) (stop3 c arg2 harg2 x0) then
    k0_pay2 (k0_pay336 i) (stop2 c arg2 harg2 x0) (size3 c arg2 harg2 x0) (bodyRun.sl.r_285 c i arg3 harg3 arg4 harg4 arg5 harg5 arg6 harg6 x1 x2 x3 x4) (bodyRun.sl.r_286 c arg3 harg3 x1) (acc3 c i arg2 harg2 arg3 harg3 arg4 harg4 arg5 harg5 arg6 harg6 x0 x1 x2 x3 x4)
  else acc3 c i arg2 harg2 arg3 harg3 arg4 harg4 arg5 harg5 arg6 harg6 x0 x1 x2 x3 x4
/-- The output block: the accumulator after the last expert, in the output's format. -/
def block : Vec F S256x256 .bf16 := k0_pay3 (acc4 c i arg2 harg2 arg3 harg3 arg4 harg4 arg5 harg5 arg6 harg6 x0 x1 x2 x3 x4)

variable (arg8 : Memref sig .tc .vmem S256x256 .f32) (harg8 : arg8.IsWhole)
  (d8 : Vec F S256x256 .f32)

theorem load0 : bodyRun.sl.v870 c arg8 = (acc0 : Vec F S256x256 .f32) := by
  unfold bodyRun.sl.v870 bodyRun.sl.HS0_1 acc0
  exact View.readCov_full _ _ _ _ _

theorem load1 : bodyRun.sl.v870_1 c i arg2 harg2 arg3 harg3 arg4 harg4 arg5 harg5 arg6 harg6 arg8 harg8 x0 x1 x2 x3 x4 d8 = acc1 c i arg2 harg2 arg3 harg3 arg4 harg4 arg5 harg5 arg6 harg6 x0 x1 x2 x3 x4 := by
  unfold bodyRun.sl.v870_1
  rw [load_after_guarded_store, load0]
  unfold acc1 acc0 bodyRun.sl.HS0_1
  rw [View.readAt_writes_full]
  rfl

theorem load2 : bodyRun.sl.v870_2 c i arg2 harg2 arg3 harg3 arg4 harg4 arg5 harg5 arg6 harg6 arg8 harg8 x0 x1 x2 x3 x4 d8 = acc2 c i arg2 harg2 arg3 harg3 arg4 harg4 arg5 harg5 arg6 harg6 x0 x1 x2 x3 x4 := by
  unfold bodyRun.sl.v870_2
  refine (load_after_guarded_store c _ _ _ _ _).trans ?_
  unfold acc2
  rw [← load1 c i arg2 harg2 arg3 harg3 arg4 harg4 arg5 harg5 arg6 harg6 x0 x1 x2 x3 x4 arg8 harg8 d8]
  refine if_congr Iff.rfl ?_ ?_
  · rfl
  · rfl

theorem load3 : bodyRun.sl.v870_3 c i arg2 harg2 arg3 harg3 arg4 harg4 arg5 harg5 arg6 harg6 arg8 harg8 x0 x1 x2 x3 x4 d8 = acc3 c i arg2 harg2 arg3 harg3 arg4 harg4 arg5 harg5 arg6 harg6 x0 x1 x2 x3 x4 := by
  unfold bodyRun.sl.v870_3
  refine (load_after_guarded_store c _ _ _ _ _).trans ?_
  unfold acc3
  rw [← load2 c i arg2 harg2 arg3 harg3 arg4 harg4 arg5 harg5 arg6 harg6 x0 x1 x2 x3 x4 arg8 harg8 d8]
  refine if_congr Iff.rfl ?_ ?_
  · rfl
  · rfl

theorem load4 : bodyRun.sl.v50 c i arg2 harg2 arg3 harg3 arg4 harg4 arg5 harg5 arg6 harg6 arg8 harg8 x0 x1 x2 x3 x4 d8 = acc4 c i arg2 harg2 arg3 harg3 arg4 harg4 arg5 harg5 arg6 harg6 x0 x1 x2 x3 x4 := by
  unfold bodyRun.sl.v50
  refine (load_after_guarded_store c _ _ _ _ _).trans ?_
  unfold acc4
  rw [← load3 c i arg2 harg2 arg3 harg3 arg4 harg4 arg5 harg5 arg6 harg6 x0 x1 x2 x3 x4 arg8 harg8 d8]
  refine if_congr Iff.rfl ?_ ?_
  · rfl
  · rfl

/-- The body's store into the output block is `block`, whatever either buffer held before. -/
theorem run_block (arg7 : Memref sig .tc .vmem S256x256 .bf16) (harg7 : arg7.IsWhole) (f : Buf (Elt F) (arg7.view.loc (c : Thread nD τ))) :
    arg7.view.read (Elt F) (arg7.view.writes (Elt F) f (bodyRun c i arg2 harg2 arg3 harg3 arg4 harg4 arg5 harg5 arg6 harg6 arg7 harg7 arg8 harg8 x0 x1 x2 x3 x4 d8).1) = block c i arg2 harg2 arg3 harg3 arg4 harg4 arg5 harg5 arg6 harg6 x0 x1 x2 x3 x4 := by
  have h : (bodyRun c i arg2 harg2 arg3 harg3 arg4 harg4 arg5 harg5 arg6 harg6 arg7 harg7 arg8 harg8 x0 x1 x2 x3 x4 d8).1
      = [⟨Rect.unit (s := S256x256) ![0, 0] S256x256.size inb_S256x256_S256x256_0_0,
          k0_pay3 (bodyRun.sl.v50 c i arg2 harg2 arg3 harg3 arg4 harg4 arg5 harg5 arg6 harg6 arg8 harg8 x0 x1 x2 x3 x4 d8)⟩] := rfl
  rw [h, load4]
  exact View.read_writes_full _ _ _ _ _

end Block

variable (m : (ℓ : Loc nD τ sig) → Buf (Elt F) ℓ) (ρ : Dev nD → PrngReg)

/-! ## The staging buffers -/

/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x3072x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x48x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output block at point `t`. -/
def blockAt (c : Dev nD) (t : Fin cfg0.N) : Vec F S256x256 .bf16 :=
  block c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `blockAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (blockAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (blockAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: it finds the inputs' blocks, leaves them, and leaves `blockAt` in the output's buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨%d8, HS0⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ (Memref.isWhole_whole _) (iblk m c 0 t) (iblk m c 1 t) (iblk m c 2 t) (iblk m c 3 t) (iblk m c 4 t) d8).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact run_block c _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.KernelIdeal.Expert.lean ====
module

public import proofs.«01_k».proof.Proof.KernelIdeal.Body
public import Idealize.ShloMosaic.Lib.Pipeline.Value
public import Idealize.ShloMosaic.Lib.Pipeline.ValueKit.Tiles
public import Idealize.ShloMosaic.Lib.ValueIdxCore

/-! One expert's dot products inside the kernel's block, written once for every expert and every group of 128
rows of weights: the kernel's 24 groups, written out for each of the four experts, are these. -/

@[expose] public section

noncomputable section

namespace Cert.KernelIdeal.Expert

open Cert.KernelIdeal Cert.KernelIdeal.Gen Cert.KernelIdeal.Body
open Idealize.ShloMosaic Idealize.ShloMosaic.TcCoe

variable {F : FTy → Type} [FloatOps F]

/-- The bytes of a group of weights, four to a word. -/
def words (b : Vec F S1x128x256 .i8) : IVec S32x256 32 :=
  bitcast S32x256 32 (shapeCast S128x256 b shapeCasts_S1x128x256_S128x256) bitcasts_S128x256_w8_S32x256_w32

/-- The low halves of the bytes, each moved to the high half of its byte. -/
def loBytes (b : Vec F S1x128x256 .i8) : IVec S128x256 8 :=
  bitcast S128x256 8 (andi (shli (words (F := F) b) (broadcast S32x256 4#32)) (broadcast S32x256 4042322160#32))
    bitcasts_S32x256_w32_S128x256_w8

/-- The high halves of the bytes, left where they are. -/
def hiBytes (b : Vec F S1x128x256 .i8) : IVec S128x256 8 :=
  bitcast S128x256 8 (andi (words (F := F) b) (broadcast S32x256 4042322160#32)) bitcasts_S32x256_w32_S128x256_w8

/-- Bytes as numbers, times the sixteenth of the group's scale of each column. -/
def scaled (b : IVec S128x256 8) (s : Vec F S1x1x256 .f32) : FVec F S128x256 .bf16 :=
  mulf (sitofp .bf16 b) (broadcastTo S128x256
    (truncf .bf16 (mulf (shapeCast S1x256 s shapeCasts_S1x1x256_S1x256) (broadcast S1x256 (Scalar.ofBits .f32 0x3D800000#32)))
      bitsLt_bf16_f32) broadcasts_S1x256_S128x256)

theorem slice_fits {k : ℕ} (h : k + 128 ≤ 6144) : S256x6144.Slices ![0, k] S256x128 :=
  ⟨rfl, fun a => by
    match a with
    | ⟨0, _⟩ => exact le_of_eq (Nat.zero_add _)
    | ⟨1, _⟩ => exact h⟩

theorem weights_fit {e g : ℕ} (he : e < 4) (hg : g < 24) :
    ∀ a, (![e, 128 * g, 0] : Fin 3 → ℕ) a + S1x128x256.size a ≤ S4x3072x256.size a := fun a => by
  match a with
  | ⟨0, _⟩ => exact he
  | ⟨1, _⟩ => show 128 * g + 128 ≤ 3072; omega
  | ⟨2, _⟩ => exact le_of_eq (Nat.zero_add _)

theorem scales_fit {e g : ℕ} (he : e < 4) (hg : g < 48) :
    ∀ a, (![e, g, 0] : Fin 3 → ℕ) a + S1x1x256.size a ≤ S4x48x256.size a := fun a => by
  match a with
  | ⟨0, _⟩ => exact he
  | ⟨1, _⟩ => exact hg
  | ⟨2, _⟩ => exact le_of_eq (Nat.zero_add _)

/-- The group's rows of weights, of expert `e`. -/
def weightsOf (x3 : Vec F S4x3072x256 .i8) {e g : ℕ} (he : e < 4) (hg : g < 24) : Vec F S1x128x256 .i8 :=
  View.ld x3 (Rect.unit (s := S4x3072x256) ![e, 128 * g, 0] S1x128x256.size (weights_fit he hg))

/-- Row `g` of the scales of expert `e`. -/
def scaleOf (x4 : Vec F S4x48x256 .f32) {e g : ℕ} (he : e < 4) (hg : g < 48) : Vec F S1x1x256 .f32 :=
  View.ld x4 (Rect.unit (s := S4x48x256) ![e, g, 0] S1x1x256.size (scales_fit he hg))

/-- 128 columns of the activations from column `k` on, times 128 rows of weights, added to `acc`. -/
def addDot (xb : FVec F S256x6144 .bf16) (k : ℕ) (h : k + 128 ≤ 6144) (w : FVec F S128x256 .bf16)
    (acc : FVec F S256x256 .f32) : FVec F S256x256 .f32 :=
  addf acc (matmul dot_S256x128_S128x256_S256x256_1_0_0_1_n_n none
    (extractStridedSlice S256x128 ![0, k] xb (slice_fits h)) w (constant S256x256 .f32 0x00000000#32))

/-- One group of expert `e`: the low halves' products, then the high halves', added to `acc`. -/
def addGroup (xb : FVec F S256x6144 .bf16) (x3 : Vec F S4x3072x256 .i8) (x4 : Vec F S4x48x256 .f32) {e g : ℕ}
    (he : e < 4) (hg : g < 24) (acc : FVec F S256x256 .f32) : FVec F S256x256 .f32 :=
  addDot xb (3072 + 128 * g) (by omega) (scaled (hiBytes (F := F) (weightsOf x3 he hg)) (scaleOf x4 he (g := 24 + g) (by omega)))
    (addDot xb (128 * g) (by omega) (scaled (loBytes (F := F) (weightsOf x3 he hg)) (scaleOf x4 he (g := g) (by omega))) acc)

/-- The first `n` groups of expert `e`, added up from zero. -/
def groups (xb : FVec F S256x6144 .bf16) (x3 : Vec F S4x3072x256 .i8) (x4 : Vec F S4x48x256 .f32) {e : ℕ} (he : e < 4) :
    (n : ℕ) → n ≤ 24 → FVec F S256x256 .f32
  | 0, _ => broadcast S256x256 (Scalar.ofBits .f32 0x00000000#32)
  | n + 1, h => addGroup xb x3 x4 he (g := n) (by omega) (groups xb x3 x4 he n (by omega))

variable (c : Dev nD) (i : grid0.Coords) (arg2 : Memref sig .tc .smem S4 .i32) (harg2 : arg2.IsWhole) (arg3 : Memref sig .tc .smem S4 .i32) (harg3 : arg3.IsWhole) (arg4 : Memref sig .tc .vmem S2560x6144 .bf16) (harg4 : arg4.IsWhole) (arg5 : Memref sig .tc .vmem S4x3072x256 .i8) (harg5 : arg5.IsWhole) (arg6 : Memref sig .tc .vmem S4x48x256 .f32) (harg6 : arg6.IsWhole)
variable (x0 x1 : Vec F S4 .i32) (x2 : Vec F S2560x6144 .bf16) (x3 : Vec F S4x3072x256 .i8) (x4 : Vec F S4x48x256 .f32)

/-- The 256 rows of the activations of the point `i`. -/
def rowsOf (x2 : Vec F S2560x6144 .bf16) (i : grid0.Coords) : Vec F S256x6144 .bf16 :=
  View.ld x2 (Rect.unit (s := S2560x6144) (k0_off1 i) S256x6144.size (k0_off1_inb i))

/-- The activations over the power of two of the scale whose bits are `b`, clipped. -/
def quantised (x : Vec F S256x6144 .bf16) (b : BitVec 32) : FVec F S256x6144 .bf16 := k0_pay4 x b

/-- All 24 groups of expert `e` at the point `i`. -/
def dots (e : Fin 4) : FVec F S256x256 .f32 :=
  groups (quantised (rowsOf x2 i) (x1 (ValueIdx.ix1 e))) x3 x4 e.isLt 24 le_rfl

omit [FloatOps F] in
/-- A word read from a whole buffer of four is the buffer's word. -/
theorem word_eq {m : Memref sig .tc .smem S4 .i32} (hm : m.IsWhole) (x : Vec F S4 .i32) (e : Fin 4) {o : Fin 1 → ℕ} (ho : o = ![e.val])
    (inb : ∀ a, o a + S1.size a ≤ S4.size a) (z : S1.Idx) :
    m.view.readAt (Elt F) (Rect.unit (s := S4) o S1.size inb).toLoadRect (hm.unread x) z = x (ValueIdx.ix1 e) := by
  rw [View.readAt_eq_ld, hm.read_unread]
  refine View.ld_unit_apply_of x _ _ inb z _ fun a => ?_
  subst ho
  match a with
  | ⟨0, _⟩ => exact (congrArg (e.val + ·) (Nat.lt_one_iff.mp (z 0).isLt)).symm

/-- The word of the scale of expert `0`, as read for its activations; likewise for the other three. -/
theorem word0 : bodyRun.sl.r_1 c arg3 harg3 x1 = x1 (ValueIdx.ix1 0) := word_eq harg3 x1 0 rfl _ _
theorem word1 : bodyRun.sl.r_72 c arg3 harg3 x1 = x1 (ValueIdx.ix1 1) := word_eq harg3 x1 1 rfl _ _
theorem word2 : bodyRun.sl.r_144 c arg3 harg3 x1 = x1 (ValueIdx.ix1 2) := word_eq harg3 x1 2 rfl _ _
theorem word3 : bodyRun.sl.r_216 c arg3 harg3 x1 = x1 (ValueIdx.ix1 3) := word_eq harg3 x1 3 rfl _ _

/-- What the kernel writes out for expert `0` is `dots` of it; likewise for the other three. -/
theorem dots0 : bodyRun.sl.r_70 c i arg3 harg3 arg4 harg4 arg5 harg5 arg6 harg6 x1 x2 x3 x4 = dots i x1 x2 x3 x4 0 := by
  unfold dots
  rw [← word0 c arg3 harg3 x1]
  sl_unfold_words
  simp only [View.readAt_eq_ld, harg4.read_unread, harg5.read_unread, harg6.read_unread]
  rfl

theorem dots1 : bodyRun.sl.r_141 c i arg3 harg3 arg4 harg4 arg5 harg5 arg6 harg6 x1 x2 x3 x4 = dots i x1 x2 x3 x4 1 := by
  unfold dots
  rw [← word1 c arg3 harg3 x1]
  sl_unfold_words
  simp only [View.readAt_eq_ld, harg4.read_unread, harg5.read_unread, harg6.read_unread]
  rfl

theorem dots2 : bodyRun.sl.r_213 c i arg3 harg3 arg4 harg4 arg5 harg5 arg6 harg6 x1 x2 x3 x4 = dots i x1 x2 x3 x4 2 := by
  unfold dots
  rw [← word2 c arg3 harg3 x1]
  sl_unfold_words
  simp only [View.readAt_eq_ld, harg4.read_unread, harg5.read_unread, harg6.read_unread]
  rfl

theorem dots3 : bodyRun.sl.r_285 c i arg3 harg3 arg4 harg4 arg5 harg5 arg6 harg6 x1 x2 x3 x4 = dots i x1 x2 x3 x4 3 := by
  unfold dots
  rw [← word3 c arg3 harg3 x1]
  sl_unfold_words
  simp only [View.readAt_eq_ld, harg4.read_unread, harg5.read_unread, harg6.read_unread]
  rfl

/-- The row at which expert `n` starts, as a word: the sum of the sizes before it. -/
def edge (x0 : Vec F S4 .i32) : (n : ℕ) → n ≤ 4 → BitVec 32
  | 0, _ => 0#32
  | n + 1, h => Scalar.addi (edge x0 n (by omega)) (x0 (ValueIdx.ix1 ⟨n, h⟩))

/-- The accumulator after the first `n` experts. -/
def after : (n : ℕ) → n ≤ 4 → FVec F S256x256 .f32
  | 0, _ => k0_pay337
  | n + 1, h =>
    if taken i (edge x0 n (by omega)) (edge x0 (n + 1) h) then
      k0_pay1 (k0_pay336 i) (edge x0 n (by omega)) (edge x0 (n + 1) h) (dots i x1 x2 x3 x4 ⟨n, h⟩) (x1 (ValueIdx.ix1 ⟨n, h⟩))
        (after n (by omega))
    else after n (by omega)

/-- One expert's store, the row range given by its two edges. -/
def store (start stop : BitVec 32) (D : FVec F S256x256 .f32) (a : BitVec 32) (prev : FVec F S256x256 .f32) : FVec F S256x256 .f32 :=
  k0_pay1 (k0_pay336 i) start stop D a prev

theorem store0 (n : BitVec 32) (D : FVec F S256x256 .f32) (a : BitVec 32) (prev : FVec F S256x256 .f32) :
    k0_pay338 i n D a prev = store i 0#32 (Scalar.addi 0#32 n) D a prev := rfl
theorem store1 (n n' : BitVec 32) (D : FVec F S256x256 .f32) (a : BitVec 32) (prev : FVec F S256x256 .f32) :
    k0_pay339 i n n' D a prev = store i (Scalar.addi 0#32 n) (Scalar.addi (Scalar.addi 0#32 n) n') D a prev := rfl
theorem store3 (s n : BitVec 32) (D : FVec F S256x256 .f32) (a : BitVec 32) (prev : FVec F S256x256 .f32) :
    k0_pay2 (k0_pay336 i) s n D a prev = store i s (Scalar.addi s n) D a prev := rfl

theorem stop0_eq : stop0 c arg2 harg2 x0 = edge x0 1 (by omega) := congrArg (Scalar.addi 0#32) (word_eq harg2 x0 0 rfl _ _)
theorem stop1_eq : stop1 c arg2 harg2 x0 = edge x0 2 (by omega) :=
  congrArg₂ Scalar.addi (stop0_eq c arg2 harg2 x0) (word_eq harg2 x0 1 rfl _ _)
theorem stop2_eq : stop2 c arg2 harg2 x0 = edge x0 3 (by omega) :=
  congrArg₂ Scalar.addi (stop1_eq c arg2 harg2 x0) (word_eq harg2 x0 2 rfl _ _)
theorem stop3_eq : stop3 c arg2 harg2 x0 = edge x0 4 (by omega) :=
  congrArg₂ Scalar.addi (stop2_eq c arg2 harg2 x0) (word_eq harg2 x0 3 rfl _ _)

/-- The accumulator after each expert is `after`. -/
theorem acc1_eq : acc1 c i arg2 harg2 arg3 harg3 arg4 harg4 arg5 harg5 arg6 harg6 x0 x1 x2 x3 x4 = after i x0 x1 x2 x3 x4 1 (by omega) := by
  have a0 : bodyRun.sl.r_1 c arg3 harg3 x1 = x1 (ValueIdx.ix1 0) := word_eq harg3 x1 0 rfl _ _
  unfold acc1
  rw [store0, dots0, a0]
  change (if taken i _ (stop0 c arg2 harg2 x0) then store i _ (stop0 c arg2 harg2 x0) _ _ _ else _) = _
  rw [stop0_eq]
  rfl
theorem acc2_eq : acc2 c i arg2 harg2 arg3 harg3 arg4 harg4 arg5 harg5 arg6 harg6 x0 x1 x2 x3 x4 = after i x0 x1 x2 x3 x4 2 (by omega) := by
  have a1 : bodyRun.sl.r_72 c arg3 harg3 x1 = x1 (ValueIdx.ix1 1) := word_eq harg3 x1 1 rfl _ _
  unfold acc2
  rw [store1, dots1, a1, acc1_eq]
  change (if taken i (stop0 c arg2 harg2 x0) (stop1 c arg2 harg2 x0) then
    store i (stop0 c arg2 harg2 x0) (stop1 c arg2 harg2 x0) _ _ _ else _) = _
  rw [stop0_eq, stop1_eq]
  rfl
theorem acc3_eq : acc3 c i arg2 harg2 arg3 harg3 arg4 harg4 arg5 harg5 arg6 harg6 x0 x1 x2 x3 x4 = after i x0 x1 x2 x3 x4 3 (by omega) := by
  have a2 : bodyRun.sl.r_214 c arg3 harg3 x1 = x1 (ValueIdx.ix1 2) := word_eq harg3 x1 2 rfl _ _
  unfold acc3
  rw [dots2, a2, acc2_eq, stop1_eq, stop2_eq]
  rfl
theorem acc4_eq : acc4 c i arg2 harg2 arg3 harg3 arg4 harg4 arg5 harg5 arg6 harg6 x0 x1 x2 x3 x4 = after i x0 x1 x2 x3 x4 4 le_rfl := by
  have a3 : bodyRun.sl.r_286 c arg3 harg3 x1 = x1 (ValueIdx.ix1 3) := word_eq harg3 x1 3 rfl _ _
  unfold acc4
  rw [store3, dots3, a3, acc3_eq]
  change (if taken i (stop2 c arg2 harg2 x0) (stop3 c arg2 harg2 x0) then
    store i (stop2 c arg2 harg2 x0) (stop3 c arg2 harg2 x0) _ _ _ else _) = _
  rw [stop2_eq, stop3_eq]
  rfl

/-- The output block is the accumulator after the four experts. -/
theorem block_eq : block c i arg2 harg2 arg3 harg3 arg4 harg4 arg5 harg5 arg6 harg6 x0 x1 x2 x3 x4 = k0_pay3 (after i x0 x1 x2 x3 x4 4 le_rfl) := by
  unfold block
  rw [acc4_eq]

end Cert.KernelIdeal.Expert
-- ==== Proof.Nibble.lean ====
module

public import Idealize.ShloMosaic.Lib.BitcastFour
public import Idealize.ShloMosaic.PureOps.Ideal

/-! Two four-bit weights in one byte. The reference shifts each into place and back, sign and all; the kernel works on
words of four bytes, leaves each weight in the high half of its byte, sixteen times too large, and a scale one sixteenth
as large makes up for it. -/

@[expose] public section

noncomputable section

namespace Cert.Nibble

open Idealize.ShloMosaic Idealize.ShloMosaic.ValueIdx

/-- The weight in the low half of a byte, as a byte. -/
def lo (b : BitVec 8) : BitVec 8 := IntOp.shrsi .vector (IntOp.shli .vector b 4#8) 4#8
/-- The weight in the high half of a byte, as a byte. -/
def hi (b : BitVec 8) : BitVec 8 := IntOp.shrsi .vector b 4#8

/-- The low half moved up is sixteen times the low weight. -/
theorem lo_up : ∀ b : BitVec 8, (b <<< 4).toInt = 16 * (lo b).toInt := by decide +kernel
/-- The high half alone is sixteen times the high weight. -/
theorem hi_up : ∀ b : BitVec 8, (b &&& 0xF0#8).toInt = 16 * (hi b).toInt := by decide +kernel

/-- A word read back as bytes: bit `q` of byte row `p` is bit `8 (p % 4) + q` of word row `p / 4`. -/
theorem bytes_bit {R r n : ℕ} (x : (⟨2, ![r, n]⟩ : Shape).Idx → BitVec 32) (h : (⟨2, ![r, n]⟩ : Shape).Bitcasts 32 ⟨2, ![R, n]⟩ 8)
    (p : Fin R) (l : Fin n) (q : ℕ) (hq : q < 8) (a : Fin r) (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hr : Shape.row (⟨2, ![R, n]⟩ : Shape) (ix2 p l) = p.val := rfl
  have e : (Shape.row (⟨2, ![R, n]⟩ : Shape) (ix2 p l) * 8 + q) % 32 = 8 * (p.val % 4) + q := by rw [hr]; omega
  rw [e]
  congr 2
  funext c
  match c with
  | ⟨0, _⟩ => exact Fin.ext ((h.srcIdx_row _ _ _ ⟨0, Nat.zero_lt_two⟩ rfl).trans (by rw [hr, ha]; omega))
  | ⟨1, _⟩ => exact Fin.ext (h.srcIdx_other _ _ _ ⟨1, Nat.one_lt_two⟩ (by show ¬ 1 + 2 = 2; omega))

/-- The mask of the high halves of the four bytes. -/
theorem mask_bit : ∀ q : Fin 32, (4042322160#32 : BitVec 32).getLsbD q.val = decide (4 ≤ q.val % 8) := by decide +kernel

theorem high_bit : ∀ q : Fin 8, (0xF0#8 : BitVec 8).getLsbD q.val = decide (4 ≤ q.val) := by decide +kernel

variable {R r n : ℕ} (x : (⟨2, ![R, n]⟩ : Shape).Idx → BitVec 8) (h : (⟨2, ![R, n]⟩ : Shape).Bitcasts 8 ⟨2, ![r, n]⟩ 32)
  (h' : (⟨2, ![r, n]⟩ : Shape).Bitcasts 32 ⟨2, ![R, n]⟩ 8) (p : Fin R) (l : Fin n) (hp : p.val / 4 < r)

include hp in
/-- The words shifted left by four and masked: every byte is its low half moved up. -/
theorem lo_bytes :
    bitcast ⟨2, ![R, n]⟩ 8 (andi (shli (bitcast ⟨2, ![r, n]⟩ 32 x h) (broadcast ⟨2, ![r, n]⟩ 4#32))
      (broadcast ⟨2, ![r, n]⟩ 4042322160#32)) h' (ix2 p l) = x (ix2 p l) <<< 4 := by
  apply BitVec.eq_of_getLsbD_eq
  intro q hq
  rw [bytes_bit _ h' p l q hq ⟨p.val / 4, hp⟩ rfl]
  show ((bitcast ⟨2, ![r, n]⟩ 32 x h (ix2 ⟨p.val / 4, hp⟩ l) <<< 4#32) &&& 4042322160#32).getLsbD _ = _
  have hb : 8 * (p.val % 4) + q < 32 := by omega
  rw [BitVec.getLsbD_and, mask_bit ⟨_, hb⟩, BitVec.getLsbD_shiftLeft, BitVec.shiftLeft_eq', BitVec.getLsbD_shiftLeft]
  rw [show (4#32 : BitVec 32).toNat = 4 from rfl]
  by_cases h4 : 4 ≤ q
  · rw [bitcast_8_32_getLsbD_ix2 x h ⟨p.val / 4, hp⟩ l (8 * (p.val % 4) + q - 4) (by omega) p (by dsimp only; omega),
      show (8 * (p.val % 4) + q - 4) % 8 = q - 4 by omega]
    simp [hb, hq, show ¬ 8 * (p.val % 4) + q < 4 by omega, show ¬ q < 4 by omega, Nat.mod_eq_of_lt hq, h4]
  · simp [Nat.mod_eq_of_lt hq, show q < 4 by omega]

include hp in
/-- The words masked: every byte keeps its high half. -/
theorem hi_bytes :
    bitcast ⟨2, ![R, n]⟩ 8 (andi (bitcast ⟨2, ![r, n]⟩ 32 x h) (broadcast ⟨2, ![r, n]⟩ 4042322160#32)) h' (ix2 p l)
      = x (ix2 p l) &&& 0xF0#8 := by
  apply BitVec.eq_of_getLsbD_eq
  intro q hq
  rw [bytes_bit _ h' p l q hq ⟨p.val / 4, hp⟩ rfl]
  show (bitcast ⟨2, ![r, n]⟩ 32 x h (ix2 ⟨p.val / 4, hp⟩ l) &&& 4042322160#32).getLsbD _ = _
  have hb : 8 * (p.val % 4) + q < 32 := by omega
  rw [BitVec.getLsbD_and, mask_bit ⟨_, hb⟩, BitVec.getLsbD_and, high_bit ⟨q, hq⟩,
    bitcast_8_32_getLsbD_ix2 x h ⟨p.val / 4, hp⟩ l _ hb p (by dsimp only; omega),
    show (8 * (p.val % 4) + q) % 8 = q by omega]

/-- One sixteenth, from its word. -/
theorem sixteenth : Ideal.ofBits .f32 0x3D800000#32 = ((1 / 16 : ℝ) : EReal) := by
  simp [Ideal.ofBits, Ideal.ieee, -EReal.coe_mul]; norm_num

/-- Sixteen times a weight, times a sixteenth of a scale, is the weight times the scale. -/
theorem scaled_eq (w v : BitVec 8) (hv : v.toInt = 16 * w.toInt) (s : EReal) :
    FloatOps.sitofp (F := Ideal) .bf16 v * (s * Ideal.ofBits .f32 0x3D800000#32) = FloatOps.sitofp (F := Ideal) .bf16 w * s := by
  show ((v.toInt : ℝ) : EReal) * (s * _) = ((w.toInt : ℝ) : EReal) * s
  rw [sixteenth, hv, mul_comm s, ← mul_assoc, ← EReal.coe_mul]
  congr 2
  push_cast
  ring

end Cert.Nibble
-- ==== Proof.Spec.lean ====
module

public import proofs.«01_k».proof.Proof.Nibble

/-! The numbers both programs compute, entry by entry: one row of quantised activations against one column of packed
weights. And the rearrangement that separates the two: 24 groups of 128 products, low halves and high halves taking
turns, are two sums of 3072 products. -/

@[expose] public section

noncomputable section

open scoped BigOperators

namespace Cert.Spec

open Idealize.ShloMosaic

/-- A number clipped to `[-448, 448]`, as both programs write it. -/
def clipped (v : EReal) : EReal := min (Ideal.ofBits .f32 0x43E00000#32) (max (Ideal.ofBits .f32 0xC3E00000#32) v)

/-- A byte as a number. -/
abbrev num (b : BitVec 8) : EReal := FloatOps.sitofp (F := Ideal) .bf16 b

/-- The product for position `k` of the low half: activation `k`, the low weight of byte `k`, the scale of its group. -/
def loTerm (q : Fin 6144 → EReal) (w : Fin 3072 → BitVec 8) (s : Fin 48 → EReal) (k : Fin 3072) : EReal :=
  q ⟨k.val, by omega⟩ * (num (Nibble.lo (w k)) * s ⟨k.val / 128, by omega⟩)

/-- The product for position `k` of the high half. -/
def hiTerm (q : Fin 6144 → EReal) (w : Fin 3072 → BitVec 8) (s : Fin 48 → EReal) (k : Fin 3072) : EReal :=
  q ⟨3072 + k.val, by omega⟩ * (num (Nibble.hi (w k)) * s ⟨24 + k.val / 128, by omega⟩)

/-- A row of activations times a column of weights. -/
def dot (q : Fin 6144 → EReal) (w : Fin 3072 → BitVec 8) (s : Fin 48 → EReal) : EReal :=
  ∑ k, loTerm q w s k + ∑ k, hiTerm q w s k

/-- Position `p` of group `g`. -/
abbrev pos (g : Fin 24) (p : Fin 128) : Fin 3072 := ⟨128 * g.val + p.val, by omega⟩

/-- A sum over 24 groups of 128 is the sum over 3072. -/
theorem sum_groups (f : Fin 3072 → EReal) : ∑ g : Fin 24, ∑ p : Fin 128, f (pos g p) = ∑ k, f k := by
  rw [← Fintype.sum_prod_type' (f := fun g p => f (pos g p))]
  refine Fintype.sum_equiv (finProdFinEquiv (m := 24) (n := 128)) _ _ fun a => ?_
  refine congrArg f (Fin.ext ?_)
  show 128 * a.1.val + a.2.val = a.2.val + 128 * a.1.val
  omega

/-- The first `n` groups, the low halves' products then the high halves' of each. -/
def upTo (q : Fin 6144 → EReal) (w : Fin 3072 → BitVec 8) (s : Fin 48 → EReal) : (n : ℕ) → n ≤ 24 → EReal
  | 0, _ => 0
  | n + 1, h => upTo q w s n (by omega) + ∑ p, loTerm q w s (pos ⟨n, h⟩ p) + ∑ p, hiTerm q w s (pos ⟨n, h⟩ p)

theorem upTo_eq (q : Fin 6144 → EReal) (w : Fin 3072 → BitVec 8) (s : Fin 48 → EReal) : ∀ (n : ℕ) (h : n ≤ 24),
    upTo q w s n h = ∑ g : Fin n, (∑ p, loTerm q w s (pos ⟨g, by omega⟩ p) + ∑ p, hiTerm q w s (pos ⟨g, by omega⟩ p))
  | 0, _ => by simp [upTo]
  | n + 1, h => by
    rw [upTo, upTo_eq q w s n, add_assoc]
    exact (Fin.sum_univ_castSucc (n := n) fun g : Fin (n + 1) =>
      (∑ p, loTerm q w s (pos ⟨g, by omega⟩ p) + ∑ p, hiTerm q w s (pos ⟨g, by omega⟩ p))).symm

/-- All 24 groups are the whole product. -/
theorem upTo_all (q : Fin 6144 → EReal) (w : Fin 3072 → BitVec 8) (s : Fin 48 → EReal) : upTo q w s 24 le_rfl = dot q w s := by
  rw [upTo_eq, Finset.sum_add_distrib]
  exact congrArg₂ (· + ·) (sum_groups (loTerm q w s)) (sum_groups (hiTerm q w s))

end Cert.Spec
-- ==== Proof.KernelIdeal.Element.lean ====
module

public import proofs.«01_k».proof.Proof.KernelIdeal.Expert
public import proofs.«01_k».proof.Proof.Spec
public import Idealize.ShloMosaic.Lib.MatmulPlain
public import Idealize.ShloMosaic.Lib.ValueIdx

/-! The kernel's block at one entry, over the extended reals: an expert's dot products are the row of quantised
activations times the column of weights. -/

@[expose] public section

noncomputable section

open scoped BigOperators

namespace Cert.KernelIdeal.Element

open Cert.KernelIdeal Cert.KernelIdeal.Gen Cert.KernelIdeal.Expert
open Idealize.ShloMosaic Idealize.ShloMosaic.TcCoe Idealize.ShloMosaic.ValueIdx

/-- A slice of 128 columns, times 128 rows of weights, added to the accumulator, at one entry. -/
theorem addDot_apply (xb : FVec Ideal S256x6144 .bf16) (k : ℕ) (h : k + 128 ≤ 6144) (w : FVec Ideal S128x256 .bf16)
    (acc : FVec Ideal S256x256 .f32) (r j : Fin 256) :
    addDot xb k h w acc (ix2 r j) = acc (ix2 r j) + ∑ p : Fin 128, xb (ix2 r ⟨k + p.val, by omega⟩) * w (ix2 p j) := by
  show acc (ix2 r j) + FloatOps.matmul (DotDims.plain 256 128 256) none
    (extractStridedSlice S256x128 ![0, k] xb (slice_fits h)) w (constant S256x256 .f32 0x00000000#32) (ix2 r j) = _
  rw [Ideal.matmul_plain_apply]
  show _ + (Ideal.ofBits .f32 0x00000000#32 + _) = _
  rw [Ideal.ofBits_zero_f32, zero_add]
  refine congrArg (acc (ix2 r j) + ·) (Finset.sum_congr rfl fun p _ => congrArg (· * w (ix2 p j)) ?_)
  refine extractStridedSlice_apply _ xb (slice_fits h) (ix2 r p) _ fun a => ?_
  match a with
  | ⟨0, _⟩ => exact (Nat.zero_add _).symm
  | ⟨1, _⟩ => rfl

/-- A group's bytes without their leading axis of one. -/
theorem flat_apply (b : Vec Ideal S1x128x256 .i8) (p : Fin 128) (j : Fin 256) :
    shapeCast S128x256 b shapeCasts_S1x128x256_S128x256 (ix2 p j) = b (ix3 0 p j) := by
  refine shapeCast_apply b _ (ix2 p j) (ix3 0 p j) ?_
  rw [Shape.rowMajor_val_three, Shape.rowMajor_val_two]
  show (0 * 128 + p.val) * 256 + j.val = p.val * 256 + j.val
  omega

theorem loBytes_apply (b : Vec Ideal S1x128x256 .i8) (p : Fin 128) (j : Fin 256) :
    loBytes (F := Ideal) b (ix2 p j) = b (ix3 0 p j) <<< 4 := by
  rw [← flat_apply b p j]
  exact Nibble.lo_bytes (R := 128) (r := 32) (n := 256) _ _ _ p j (by omega)

theorem hiBytes_apply (b : Vec Ideal S1x128x256 .i8) (p : Fin 128) (j : Fin 256) :
    hiBytes (F := Ideal) b (ix2 p j) = b (ix3 0 p j) &&& 0xF0#8 := by
  rw [← flat_apply b p j]
  exact Nibble.hi_bytes (R := 128) (r := 32) (n := 256) _ _ _ p j (by omega)

/-- Scaled bytes at one entry. -/
theorem scaled_apply (b : IVec S128x256 8) (s : Vec Ideal S1x1x256 .f32) (p : Fin 128) (j : Fin 256) (w : BitVec 8)
    (hw : (b (ix2 p j)).toInt = 16 * w.toInt) :
    scaled b s (ix2 p j) = Spec.num w * s (ix3 0 0 j) := by
  rw [← Nibble.scaled_eq w (b (ix2 p j)) hw]
  refine congrArg (FloatOps.sitofp (F := Ideal) .bf16 (b (ix2 p j)) * ·) ?_
  refine (broadcastTo_apply _ broadcasts_S1x256_S128x256 (ix2 p j) (ix2 0 j) fun a => ?_).trans ?_
  · match a with
    | ⟨0, _⟩ => rfl
    | ⟨1, _⟩ => rfl
  · refine congrArg (· * Ideal.ofBits .f32 0x3D800000#32) ?_
    refine shapeCast_apply s _ (ix2 0 j) (ix3 0 0 j) ?_
    rw [Shape.rowMajor_val_three, Shape.rowMajor_val_two]
    rfl

theorem weightsOf_apply (x3 : Vec Ideal S4x3072x256 .i8) (e : Fin 4) (g : Fin 24) (p : Fin 128) (j : Fin 256) :
    weightsOf x3 e.isLt g.isLt (ix3 0 p j) = x3 (ix3 e (Spec.pos g p) j) :=
  View.ld_unit_apply_of x3 _ _ _ (ix3 0 p j) _ fun a => by
    match a with
    | ⟨0, _⟩ => rfl
    | ⟨1, _⟩ => rfl
    | ⟨2, _⟩ => exact (Nat.zero_add _).symm

theorem scaleOf_apply (x4 : Vec Ideal S4x48x256 .f32) (e : Fin 4) {g : ℕ} (hg : g < 48) (j : Fin 256) :
    scaleOf x4 e.isLt hg (ix3 0 0 j) = x4 (ix3 e ⟨g, hg⟩ j) :=
  View.ld_unit_apply_of x4 _ _ _ (ix3 0 0 j) _ fun a => by
    match a with
    | ⟨0, _⟩ => rfl
    | ⟨1, _⟩ => rfl
    | ⟨2, _⟩ => exact (Nat.zero_add _).symm

section
variable (xb : FVec Ideal S256x6144 .bf16) (x3 : Vec Ideal S4x3072x256 .i8) (x4 : Vec Ideal S4x48x256 .f32) (e : Fin 4) (r j : Fin 256)

/-- One group adds its low halves' products and its high halves'. -/
theorem addGroup_apply (g : Fin 24) (acc : FVec Ideal S256x256 .f32) :
    addGroup xb x3 x4 e.isLt g.isLt acc (ix2 r j)
      = acc (ix2 r j)
        + ∑ p, Spec.loTerm (fun k => xb (ix2 r k)) (fun k => x3 (ix3 e k j)) (fun g => x4 (ix3 e g j)) (Spec.pos g p)
        + ∑ p, Spec.hiTerm (fun k => xb (ix2 r k)) (fun k => x3 (ix3 e k j)) (fun g => x4 (ix3 e g j)) (Spec.pos g p) := by
  unfold addGroup
  rw [addDot_apply, addDot_apply]
  have hdiv : ∀ p : Fin 128, (Spec.pos g p).val / 128 = g.val := fun p => by
    show (128 * g.val + p.val) / 128 = g.val; omega
  refine congrArg₂ (· + ·) (congrArg (acc (ix2 r j) + ·) (Finset.sum_congr rfl fun p _ => ?_)) (Finset.sum_congr rfl fun p _ => ?_)
  · refine congrArg₂ (· * ·) rfl ?_
    rw [scaled_apply _ _ _ _ (Nibble.lo (x3 (ix3 e (Spec.pos g p) j)))
      (by rw [loBytes_apply, weightsOf_apply]; exact Nibble.lo_up _), scaleOf_apply]
    simp only [hdiv]
  · refine congrArg₂ (· * ·) (congrArg (fun k => xb (ix2 r k)) (Fin.ext (Nat.add_assoc _ _ _))) ?_
    rw [scaled_apply _ _ _ _ (Nibble.hi (x3 (ix3 e (Spec.pos g p) j)))
      (by rw [hiBytes_apply, weightsOf_apply]; exact Nibble.hi_up _), scaleOf_apply]
    simp only [hdiv]

/-- The first `n` groups at one entry. -/
theorem groups_apply : ∀ (n : ℕ) (h : n ≤ 24), groups xb x3 x4 e.isLt n h (ix2 r j)
    = Spec.upTo (fun k => xb (ix2 r k)) (fun k => x3 (ix3 e k j)) (fun g => x4 (ix3 e g j)) n h
  | 0, _ => Ideal.ofBits_zero_f32
  | n + 1, h => by
    show addGroup xb x3 x4 e.isLt (g := n) h (groups xb x3 x4 e.isLt n (by omega)) (ix2 r j) = _
    rw [addGroup_apply xb x3 x4 e r j ⟨n, h⟩, groups_apply n]
    rfl

/-- All groups at one entry: the row times the column. -/
theorem groups_all : groups xb x3 x4 e.isLt 24 le_rfl (ix2 r j)
    = Spec.dot (fun k => xb (ix2 r k)) (fun k => x3 (ix3 e k j)) (fun g => x4 (ix3 e g j)) := by
  rw [groups_apply, Spec.upTo_all]

end

/-- The power of two of a scale's word, as the kernel forms it. -/
def power (b : BitVec 32) : EReal := Ideal.ofBits .f32 ((254#32 - (b.sshiftRight' 23#32 &&& 255#32)) <<< 23#32)

/-- The kernel's quantised activations at one entry. -/
theorem quantised_apply (x : Vec Ideal S256x6144 .bf16) (b : BitVec 32) (r : Fin 256) (k : Fin 6144) :
    quantised (F := Ideal) x b (ix2 r k) = Spec.clipped (x (ix2 r k) * power b) := rfl

/-- The first row of the point `i`. -/
theorem off_eq (i : grid0.Coords) : k0_off1 i 0 = 256 * (i 1).val := by
  show ((BitVec.ofNat 32 (i 1).val) * 256#32).toNat = _
  have h : (i 1).val < 10 := (i 1).isLt
  rw [BitVec.toNat_mul, BitVec.toNat_ofNat]
  show (i 1).val % 2 ^ 32 * 256 % 2 ^ 32 = _
  omega

/-- Row `r` of the point `i`. -/
def rowAt (i : grid0.Coords) (r : Fin 256) : Fin 2560 :=
  ⟨256 * (i 1).val + r.val, by have h : (i 1).val < 10 := (i 1).isLt; omega⟩

theorem rowsOf_apply (x2 : Vec Ideal S2560x6144 .bf16) (i : grid0.Coords) (r : Fin 256) (k : Fin 6144) :
    rowsOf x2 i (ix2 r k) = x2 (ix2 (rowAt i r) k) :=
  View.ld_unit_apply_of x2 _ _ _ (ix2 r k) _ fun a => by
    match a with
    | ⟨0, _⟩ => exact congrArg (· + r.val) (off_eq i).symm
    | ⟨1, _⟩ => exact (Nat.zero_add _).symm

/-- An expert's dot products at one entry. -/
theorem dots_apply (i : grid0.Coords) (x1 : Vec Ideal S4 .i32) (x2 : Vec Ideal S2560x6144 .bf16) (x3 : Vec Ideal S4x3072x256 .i8)
    (x4 : Vec Ideal S4x48x256 .f32) (e : Fin 4) (r j : Fin 256) :
    dots i x1 x2 x3 x4 e (ix2 r j)
      = Spec.dot (fun k => Spec.clipped (x2 (ix2 (rowAt i r) k) * power (x1 (ix1 e)))) (fun k => x3 (ix3 e k j)) (fun g => x4 (ix3 e g j)) := by
  unfold dots
  rw [groups_all]
  simp only [quantised_apply, rowsOf_apply]

end Cert.KernelIdeal.Element
-- ==== Proof.Rows.lean ====
module

public import Idealize.ShloMosaic.Lib.WordCmp
public import Idealize.ShloMosaic.PureOps.Ideal

/-! Which expert a row belongs to. The experts' rows lie one after another; when no sum of
their sizes overflows, "the row lies between the expert's two ends" (the kernel) says the same as "as many ends as the
expert's number lie at or below the row" (the reference). -/

@[expose] public section

noncomputable section

namespace Cert.Rows

open Idealize.ShloMosaic

/-- The row at which expert `n` starts. -/
def ends (g : Fin 4 → BitVec 32) : (n : ℕ) → n ≤ 4 → ℕ
  | 0, _ => 0
  | n + 1, h => ends g n (by omega) + (g ⟨n, h⟩).toNat

theorem ends_mono (g : Fin 4 → BitVec 32) (a : ℕ) : ∀ (b : ℕ) (hb : b ≤ 4) (hab : a ≤ b), ends g a (by omega) ≤ ends g b hb
  | 0, _, hab => by obtain rfl : a = 0 := by omega
                    exact le_rfl
  | b + 1, hb, hab => by
    rcases Nat.lt_or_ge b a with h | h
    · obtain rfl : a = b + 1 := by omega
      exact le_rfl
    · exact (ends_mono g a b (by omega) h).trans (Nat.le_add_right _ _)

/-- The sum of all sizes is a non-negative signed word. -/
def Fits (g : Fin 4 → BitVec 32) : Prop := ends g 4 le_rfl < 2 ^ (32 - 1)

theorem ends_lt (g : Fin 4 → BitVec 32) (hg : Fits g) (n : ℕ) (h : n ≤ 4) : ends g n h < 2 ^ (32 - 1) :=
  (ends_mono g n 4 le_rfl h).trans_lt hg

/-- Row `row` belongs to expert `n`. -/
abbrev owns (g : Fin 4 → BitVec 32) (row n : ℕ) (h : n < 4) : Prop := ends g n (by omega) ≤ row ∧ row < ends g (n + 1) h

/-- The value of the expert, among the first `n`, that the row belongs to; zero if there is none. -/
def pick (g : Fin 4 → BitVec 32) (row : ℕ) (v : Fin 4 → EReal) : (n : ℕ) → n ≤ 4 → EReal
  | 0, _ => 0
  | n + 1, h => if owns g row n h then v ⟨n, h⟩ else pick g row v n (by omega)

/-- How many of the four ends lie at or below the row. -/
def count (g : Fin 4 → BitVec 32) (row : ℕ) : ℕ :=
  (if ends g 1 (by omega) ≤ row then 1 else 0) + (if ends g 2 (by omega) ≤ row then 1 else 0)
    + (if ends g 3 (by omega) ≤ row then 1 else 0) + (if ends g 4 le_rfl ≤ row then 1 else 0)

theorem count_le (g : Fin 4 → BitVec 32) (row : ℕ) : count g row ≤ 4 := by
  unfold count; split_ifs <;> omega

/-- Of four ends in order, how many lie at or below a row says between which two the row lies. -/
theorem count_cases (a b c d row : ℕ) (hab : a ≤ b) (hbc : b ≤ c) (hcd : c ≤ d) (K : ℕ)
    (hK : K = (if a ≤ row then 1 else 0) + (if b ≤ row then 1 else 0) + (if c ≤ row then 1 else 0) + (if d ≤ row then 1 else 0)) :
    (K = 0 ↔ 0 ≤ row ∧ row < a) ∧ (K = 1 ↔ a ≤ row ∧ row < b) ∧ (K = 2 ↔ b ≤ row ∧ row < c) ∧ (K = 3 ↔ c ≤ row ∧ row < d) := by
  have bit (x : ℕ) : ∃ k, (if x ≤ row then 1 else 0) = k ∧ ((x ≤ row ∧ k = 1) ∨ (row < x ∧ k = 0)) := by
    by_cases hx : x ≤ row
    · exact ⟨1, if_pos hx, .inl ⟨hx, rfl⟩⟩
    · exact ⟨0, if_neg hx, .inr ⟨by omega, rfl⟩⟩
  obtain ⟨ka, ha, ha'⟩ := bit a
  obtain ⟨kb, hb, hb'⟩ := bit b
  obtain ⟨kc, hc, hc'⟩ := bit c
  obtain ⟨kd, hd, hd'⟩ := bit d
  rw [ha, hb, hc, hd] at hK
  clear ha hb hc hd bit
  refine ⟨⟨fun h => ?_, fun h => ?_⟩, ⟨fun h => ?_, fun h => ?_⟩, ⟨fun h => ?_, fun h => ?_⟩, ⟨fun h => ?_, fun h => ?_⟩⟩ <;> omega

/-- The row belongs to the expert whose number is the count. -/
theorem count_eq (g : Fin 4 → BitVec 32) (row n : ℕ) (h : n < 4) : count g row = n ↔ owns g row n h := by
  have H := count_cases (ends g 1 (by omega)) (ends g 2 (by omega)) (ends g 3 (by omega)) (ends g 4 le_rfl) row
    (Nat.le_add_right _ _) (Nat.le_add_right _ _) (Nat.le_add_right _ _) _ rfl
  have hn : n = 0 ∨ n = 1 ∨ n = 2 ∨ n = 3 := by omega
  rcases hn with rfl | rfl | rfl | rfl
  · exact H.1
  · exact H.2.1
  · exact H.2.2.1
  · exact H.2.2.2

/-- The value of the expert, among the first `n`, whose number is `k`; zero if there is none. -/
def nth (k : ℕ) (v : Fin 4 → EReal) : (n : ℕ) → n ≤ 4 → EReal
  | 0, _ => 0
  | n + 1, h => if k = n then v ⟨n, h⟩ else nth k v n (by omega)

/-- Picking by the row's expert is taking the value of the counted number. -/
theorem pick_eq (g : Fin 4 → BitVec 32) (row : ℕ) (v : Fin 4 → EReal) : ∀ (n : ℕ) (h : n ≤ 4), pick g row v n h = nth (count g row) v n h
  | 0, _ => rfl
  | n + 1, h => by
    unfold pick nth
    rw [pick_eq g row v n]
    exact if_congr (count_eq g row n h).symm rfl rfl

theorem nth_of_lt (v : Fin 4 → EReal) : ∀ (n : ℕ) (h : n ≤ 4) (k : ℕ) (hk : k < n), nth k v n h = v ⟨k, by omega⟩
  | n + 1, h, k, hk => by
    unfold nth
    split_ifs with e
    · subst e; rfl
    · exact nth_of_lt v n _ k (by omega)

theorem nth_of_ge (v : Fin 4 → EReal) : ∀ (n : ℕ) (h : n ≤ 4) (k : ℕ), n ≤ k → nth k v n h = 0
  | 0, _, _, _ => rfl
  | n + 1, h, k, hk => by
    unfold nth
    rw [if_neg (by omega)]
    exact nth_of_ge v n _ k (by omega)

end Cert.Rows
-- ==== Proof.KernelIdeal.Block.lean ====
module

public import proofs.«01_k».proof.Proof.KernelIdeal.Element
public import proofs.«01_k».proof.Proof.Rows

/-! The kernel's output block at one entry: the scaled dot product of the expert the row belongs to, zero for a row of
no expert. -/

@[expose] public section

noncomputable section

namespace Cert.KernelIdeal.Block

open Cert.KernelIdeal Cert.KernelIdeal.Gen Cert.KernelIdeal.Body Cert.KernelIdeal.Expert Cert.KernelIdeal.Element
open Idealize.ShloMosaic Idealize.ShloMosaic.TcCoe Idealize.ShloMosaic.ValueIdx

/-- The sizes of the experts, as a function of the expert. -/
abbrev sizes (x0 : Vec Ideal S4 .i32) : Fin 4 → BitVec 32 := fun e => x0 (ix1 e)

/-- The word at which an expert starts holds the sum of the sizes before it. -/
theorem edge_eq (x0 : Vec Ideal S4 .i32) : ∀ (n : ℕ) (h : n ≤ 4), edge x0 n h = BitVec.ofNat 32 (Rows.ends (sizes x0) n h)
  | 0, _ => rfl
  | n + 1, h => by
    show edge x0 n _ + x0 (ix1 ⟨n, h⟩) = BitVec.ofNat 32 (Rows.ends (sizes x0) n _ + (x0 (ix1 ⟨n, h⟩)).toNat)
    rw [edge_eq x0 n, BitVec.ofNat_add, BitVec.ofNat_toNat, BitVec.setWidth_eq]

theorem bit_ne (b : Bool) : IntOp.cmpi .ne ((BitVec.ofBool b).setWidth 32) 0#32 = 1#1 ↔ b = true := by
  cases b <;> decide

theorem first_row (m : ℕ) : IntOp.muli (BitVec.ofNat 32 m) 256#32 = BitVec.ofNat 32 (256 * m) := by
  show BitVec.ofNat 32 m * BitVec.ofNat 32 256 = _
  rw [← BitVec.ofNat_mul, Nat.mul_comm]

theorem add_row (a b : ℕ) : IntOp.addi (BitVec.ofNat 32 a) (BitVec.ofNat 32 b) = BitVec.ofNat 32 (a + b) :=
  (BitVec.ofNat_add a b).symm

/-- The body takes an expert whose rows meet the point's. -/
theorem taken_iff (i : grid0.Coords) (a b : ℕ) (ha : a < 2 ^ (32 - 1)) (hb : b < 2 ^ (32 - 1)) :
    taken i (BitVec.ofNat 32 a) (BitVec.ofNat 32 b) ↔ (a < 256 * (i 1).val + 256 ∧ 256 * (i 1).val < b) ∧ a < b := by
  have hi : (i 1).val < 10 := (i 1).isLt
  show IntOp.cmpi .ne ((IntOp.andi (IntOp.andi (IntOp.cmpi .slt (BitVec.ofNat 32 a) (IntOp.addi (IntOp.muli (BitVec.ofNat 32 (i 1).val) 256#32) 256#32))
      (IntOp.cmpi .sgt (BitVec.ofNat 32 b) (IntOp.muli (BitVec.ofNat 32 (i 1).val) 256#32)))
      (IntOp.cmpi .sgt (BitVec.ofNat 32 b) (BitVec.ofNat 32 a))).setWidth 32) 0#32 = 1#1 ↔ _
  rw [first_row, add_row, WordCmp.cmpi_slt_ofNat ha (by omega), WordCmp.cmpi_sgt_ofNat hb (by omega), WordCmp.cmpi_sgt_ofNat hb ha,
    WordCmp.andi_ofBool, WordCmp.andi_ofBool, bit_ne, Bool.and_eq_true, Bool.and_eq_true, decide_eq_true_iff, decide_eq_true_iff,
    decide_eq_true_iff]

/-- A row of the point, as the body counts it. -/
theorem row_word (i : grid0.Coords) (r : Fin 256) : k0_pay336 i (ix2 r 0) = BitVec.ofNat 32 (256 * (i 1).val + r.val) := by
  show IntOp.addi (IntOp.muli (BitVec.ofNat 32 (i 1).val) 256#32) (BitVec.ofNat 32 (0 * 256 + r.val)) = _
  rw [first_row, add_row, Nat.zero_mul, Nat.zero_add]

/-- One expert's store at one entry: rows of the expert take its value, the others keep theirs. -/
theorem store_apply (i : grid0.Coords) (a b : ℕ) (ha : a < 2 ^ (32 - 1)) (hb : b < 2 ^ (32 - 1)) (D prev : FVec Ideal S256x256 .f32)
    (w : BitVec 32) (r j : Fin 256) :
    k0_pay1 (F := Ideal) (k0_pay336 i) (BitVec.ofNat 32 a) (BitVec.ofNat 32 b) D w prev (ix2 r j)
      = if a ≤ 256 * (i 1).val + r.val ∧ 256 * (i 1).val + r.val < b then D (ix2 r j) * Ideal.ofBits .f32 w else prev (ix2 r j) := by
  have hi : (i 1).val < 10 := (i 1).isLt
  unfold k0_pay1
  simp only [shapeCast_self]
  show Scalar.select (broadcastTo S256x256 (andi (cmpi .sge (k0_pay336 i) (broadcast S256x1 (BitVec.ofNat 32 a)))
      (cmpi .slt (k0_pay336 i) (broadcast S256x1 (BitVec.ofNat 32 b)))) broadcasts_S256x1_S256x256 (ix2 r j))
    (D (ix2 r j) * Ideal.ofBits .f32 w) (prev (ix2 r j)) = _
  rw [broadcastTo_apply _ broadcasts_S256x1_S256x256 (ix2 r j) (ix2 r 0) fun x => by
    match x with
    | ⟨0, _⟩ => rfl
    | ⟨1, _⟩ => rfl]
  show (if IntOp.andi (IntOp.cmpi .sge (k0_pay336 i (ix2 r 0)) (BitVec.ofNat 32 a)) (IntOp.cmpi .slt (k0_pay336 i (ix2 r 0)) (BitVec.ofNat 32 b)) = 1#1
    then _ else _) = _
  rw [row_word, WordCmp.cmpi_sge_ofNat (by omega) ha, WordCmp.cmpi_slt_ofNat (by omega) hb, WordCmp.andi_ofBool]
  refine if_congr ?_ rfl rfl
  rw [WordCmp.ofBool_eq_one_iff, Bool.and_eq_true, decide_eq_true_iff, decide_eq_true_iff]

theorem zero_apply (r j : Fin 256) : k0_pay337 (F := Ideal) (ix2 r j) = 0 := by
  unfold k0_pay337
  rw [shapeCast_self]
  exact Ideal.ofBits_zero_f32

/-- The accumulator after the first `n` experts, at one entry. -/
theorem after_apply (i : grid0.Coords) (x0 x1 : Vec Ideal S4 .i32) (x2 : Vec Ideal S2560x6144 .bf16) (x3 : Vec Ideal S4x3072x256 .i8)
    (x4 : Vec Ideal S4x48x256 .f32) (hx : Rows.Fits (sizes x0)) (r j : Fin 256) : ∀ (n : ℕ) (h : n ≤ 4),
    after i x0 x1 x2 x3 x4 n h (ix2 r j)
      = Rows.pick (sizes x0) (rowAt i r).val (fun e => dots i x1 x2 x3 x4 e (ix2 r j) * Ideal.ofBits .f32 (x1 (ix1 e))) n h
  | 0, _ => zero_apply r j
  | n + 1, h => by
    have IH := after_apply i x0 x1 x2 x3 x4 hx r j n (by omega)
    have ha := Rows.ends_lt (sizes x0) hx n (by omega)
    have hb := Rows.ends_lt (sizes x0) hx (n + 1) h
    have hr := r.isLt
    unfold after Rows.pick
    rw [edge_eq, edge_eq]
    split_ifs with ht ho ho
    · exact (store_apply i _ _ ha hb _ _ _ r j).trans (if_pos ho)
    · exact (store_apply i _ _ ha hb _ _ _ r j).trans ((if_neg ho).trans IH)
    · refine absurd ((taken_iff i _ _ ha hb).mpr ?_) ht
      obtain ⟨h1, h2⟩ : _ ≤ 256 * (i 1).val + r.val ∧ 256 * (i 1).val + r.val < _ := ho
      omega
    · exact IH

/-- The value of row `row` and column `j` of the result, from the arrays: the dot product of the row's expert, with the
activations over the expert's power of two, times its scale. -/
def value (x0 x1 : Fin 4 → BitVec 32) (x2 : Fin 6144 → EReal) (x3 : Fin 4 → Fin 3072 → BitVec 8) (x4 : Fin 4 → Fin 48 → EReal) (row : ℕ) : EReal :=
  Rows.pick x0 row (fun e => Spec.dot (fun k => Spec.clipped (x2 k * power (x1 e))) (x3 e) (x4 e) * Ideal.ofBits .f32 (x1 e)) 4 le_rfl

/-- The output block at one entry. -/
theorem block_apply (c : Dev nD) (i : grid0.Coords) (arg2 : Memref sig .tc .smem S4 .i32) (harg2 : arg2.IsWhole) (arg3 : Memref sig .tc .smem S4 .i32) (harg3 : arg3.IsWhole) (arg4 : Memref sig .tc .vmem S2560x6144 .bf16) (harg4 : arg4.IsWhole) (arg5 : Memref sig .tc .vmem S4x3072x256 .i8) (harg5 : arg5.IsWhole) (arg6 : Memref sig .tc .vmem S4x48x256 .f32) (harg6 : arg6.IsWhole)
    (x0 x1 : Vec Ideal S4 .i32) (x2 : Vec Ideal S2560x6144 .bf16) (x3 : Vec Ideal S4x3072x256 .i8)
    (x4 : Vec Ideal S4x48x256 .f32) (hx : Rows.Fits (sizes x0)) (r j : Fin 256) :
    block c i arg2 harg2 arg3 harg3 arg4 harg4 arg5 harg5 arg6 harg6 x0 x1 x2 x3 x4 (ix2 r j)
      = value (sizes x0) (fun e => x1 (ix1 e)) (fun k => x2 (ix2 (rowAt i r) k)) (fun e k => x3 (ix3 e k j)) (fun e g => x4 (ix3 e g j)) (rowAt i r).val := by
  rw [block_eq]
  show after i x0 x1 x2 x3 x4 4 le_rfl (ix2 r j) = _
  rw [after_apply i x0 x1 x2 x3 x4 hx]
  simp only [dots_apply]
  rfl

end Cert.KernelIdeal.Block
-- ==== Proof.KernelIdeal.Array.lean ====
module

public import proofs.«01_k».proof.Proof.KernelIdeal.Block
public import proofs.«01_k».proof.Proof.Gen.KernelIdeal.Frame
public import Idealize.ShloMosaic.Lib.Pipeline.Value
public import Idealize.ShloMosaic.Lib.Pipeline.Covers

/-! The kernel's result array after the run, entry by entry, as a function of its arguments. -/

@[expose] public section

noncomputable section

namespace Cert.KernelIdeal.Array

open Cert.KernelIdeal Cert.KernelIdeal.Gen Cert.KernelIdeal.Body Cert.KernelIdeal.Expert Cert.KernelIdeal.Element Cert.KernelIdeal.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Column `j` of the point `i`. -/
def colAt (i : grid0.Coords) (j : Fin 256) : Fin 2816 :=
  ⟨256 * (i 0).val + j.val, by have h : (i 0).val < 11 := (i 0).isLt; omega⟩

/-- A coordinate of a point, as the index maps give it. -/
theorem coord_word (i : grid0.Coords) (a : Fin 2) : (BitVec.ofNat 32 (i a).val).toNat = (i a).val := by
  refine WordCmp.toNat_ofNat_of_lt ?_
  have h := (i a).isLt
  match a with
  | ⟨0, _⟩ => exact lt_trans (show _ < 11 from h) (by norm_num)
  | ⟨1, _⟩ => exact lt_trans (show _ < 10 from h) (by norm_num)

/-- Where an entry of a window's block lies in the window's array. -/
theorem emb0 (t : Fin cfg0.N) (j : S4.Idx) : ((cfg0.win 0).blk t).view.emb j = j := by
  funext a; apply Fin.ext
  match a with
  | ⟨0, _⟩ => show 0 * 4 + 1 * (j 0).val = (j 0).val; omega

theorem emb1 (t : Fin cfg0.N) (j : S4.Idx) : ((cfg0.win 1).blk t).view.emb j = j := by
  funext a; apply Fin.ext
  match a with
  | ⟨0, _⟩ => show 0 * 4 + 1 * (j 0).val = (j 0).val; omega

theorem emb2 (t : Fin cfg0.N) (j : S2560x6144.Idx) : ((cfg0.win 2).blk t).view.emb j = j := by
  funext a; apply Fin.ext
  match a with
  | ⟨0, _⟩ => show 0 * 2560 + 1 * (j 0).val = (j 0).val; omega
  | ⟨1, _⟩ => show 0 * 6144 + 1 * (j 1).val = (j 1).val; omega

theorem emb3 (t : Fin cfg0.N) (e : Fin 4) (k : Fin 3072) (j : Fin 256) :
    ((cfg0.win 3).blk t).view.emb (ix3 e k j : S4x3072x256.Idx) = (ix3 e k (colAt (grid0.coords t) j) : S4x3072x2816.Idx) := by
  have h := coord_word (grid0.coords t) 0
  funext a; apply Fin.ext
  match a with
  | ⟨0, _⟩ => show 0 * 4 + 1 * e.val = e.val; omega
  | ⟨1, _⟩ => show 0 * 3072 + 1 * k.val = k.val; omega
  | ⟨2, _⟩ =>
    show (BitVec.ofNat 32 (grid0.coords t 0).val).toNat * 256 + 1 * j.val = 256 * (grid0.coords t 0).val + j.val
    omega

theorem emb4 (t : Fin cfg0.N) (e : Fin 4) (g : Fin 48) (j : Fin 256) :
    ((cfg0.win 4).blk t).view.emb (ix3 e g j : S4x48x256.Idx) = (ix3 e g (colAt (grid0.coords t) j) : S4x48x2816.Idx) := by
  have h := coord_word (grid0.coords t) 0
  funext a; apply Fin.ext
  match a with
  | ⟨0, _⟩ => show 0 * 4 + 1 * e.val = e.val; omega
  | ⟨1, _⟩ => show 0 * 48 + 1 * g.val = g.val; omega
  | ⟨2, _⟩ =>
    show (BitVec.ofNat 32 (grid0.coords t 0).val).toNat * 256 + 1 * j.val = 256 * (grid0.coords t 0).val + j.val
    omega

theorem emb5 (t : Fin cfg0.N) (r j : Fin 256) :
    ((cfg0.win 5).blk t).view.emb (ix2 r j : S256x256.Idx)
      = (ix2 (rowAt (grid0.coords t) r) (colAt (grid0.coords t) j) : S2560x2816.Idx) := by
  have h0 := coord_word (grid0.coords t) 0
  have h1 := coord_word (grid0.coords t) 1
  funext a; apply Fin.ext
  match a with
  | ⟨0, _⟩ =>
    show (BitVec.ofNat 32 (grid0.coords t 1).val).toNat * 256 + 1 * r.val = 256 * (grid0.coords t 1).val + r.val
    omega
  | ⟨1, _⟩ =>
    show (BitVec.ofNat 32 (grid0.coords t 0).val).toNat * 256 + 1 * j.val = 256 * (grid0.coords t 0).val + j.val
    omega

/-- The blocks of the windows, from the arguments. -/
theorem iblk0_eq (c : Dev nD) (t : Fin cfg0.N) : iblk m c 0 t = m ((c : Thread nD τ).loc main_arg1) := by
  funext j; show V m c main_arg1 (((cfg0.win 0).blk t).view.emb j) = V m c main_arg1 j; rw [emb0]

theorem iblk1_eq (c : Dev nD) (t : Fin cfg0.N) : iblk m c 1 t = m ((c : Thread nD τ).loc main_arg4) := by
  funext j; show V m c main_arg4 (((cfg0.win 1).blk t).view.emb j) = V m c main_arg4 j; rw [emb1]

theorem iblk2_eq (c : Dev nD) (t : Fin cfg0.N) : iblk m c 2 t = m ((c : Thread nD τ).loc main_arg0) := by
  funext j; show V m c main_arg0 (((cfg0.win 2).blk t).view.emb j) = V m c main_arg0 j; rw [emb2]

theorem iblk3_apply (c : Dev nD) (t : Fin cfg0.N) (e : Fin 4) (k : Fin 3072) (j : Fin 256) :
    (iblk m c 3 t : Vec Ideal S4x3072x256 .i8) (ix3 e k j) = (m ((c : Thread nD τ).loc main_arg2) : Vec Ideal S4x3072x2816 .i8) (ix3 e k (colAt (grid0.coords t) j)) := by
  show V m c main_arg2 (((cfg0.win 3).blk t).view.emb (ix3 e k j : S4x3072x256.Idx)) = _
  rw [emb3]

theorem iblk4_apply (c : Dev nD) (t : Fin cfg0.N) (e : Fin 4) (g : Fin 48) (j : Fin 256) :
    (iblk m c 4 t : Vec Ideal S4x48x256 .f32) (ix3 e g j) = (m ((c : Thread nD τ).loc main_arg3) : Vec Ideal S4x48x2816 .f32) (ix3 e g (colAt (grid0.coords t) j)) := by
  show V m c main_arg3 (((cfg0.win 4).blk t).view.emb (ix3 e g j : S4x48x256.Idx)) = _
  rw [emb4]

/-- The result at every entry, from arrays. -/
def result (x : Vec Ideal S2560x6144 .bf16) (gs : Vec Ideal S4 .i32) (w : Vec Ideal S4x3072x2816 .i8) (s : Vec Ideal S4x48x2816 .f32)
    (a : Vec Ideal S4 .i32) : Vec Ideal S2560x2816 .bf16 := fun p =>
  value (sizes gs) (fun e => a (ix1 e)) (fun k => x (ix2 (p 0) k)) (fun e k => w (ix3 e k (p 1))) (fun e g => s (ix3 e g (p 1))) (p 0).val

/-- The result from the arguments. -/
abbrev resultAt (c : Dev nD) : Vec Ideal S2560x2816 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- No sum of the sizes overflows. -/
abbrev Sized (c : Dev nD) : Prop := Rows.Fits (sizes (m ((c : Thread nD τ).loc main_arg1)))

/-- What a point writes back is its block of the result. -/
theorem flushed_eq (c : Dev nD) (hx : Sized m c) (t : Fin cfg0.N) :
    (dats m 0 c).flushed 5 t = ((cfg0.win 5).blk t).view.read (Elt Ideal) (resultAt m c) := by
  funext j
  obtain ⟨r, q, rfl⟩ : ∃ (r q : Fin 256), j = (ix2 r q : S256x256.Idx) := ⟨j 0, j 1, by
    funext a; match a with | ⟨0, _⟩ => rfl | ⟨1, _⟩ => rfl⟩
  show (dats m 0 c).after 5 t (ix2 r q : S256x256.Idx) = resultAt m c (((cfg0.win 5).blk t).view.emb (ix2 r q : S256x256.Idx))
  rw [after0_5, emb5]
  unfold blockAt
  rw [iblk0_eq, iblk1_eq, iblk2_eq, block_apply _ _ _ _ _ _ _ _ _ _ _ _ _ _ _ _ _ hx r q]
  simp only [iblk3_apply, iblk4_apply]
  rfl

/-- Every entry of the result is in the block of some point. -/
theorem cover (p : S2560x2816.Idx) : ∃ t : Fin cfg0.N, (cfg0.win 5).flush t = true ∧ p ∈ ((cfg0.win 5).blk t).view.set := by
  have h0 : (p 0).val < 2560 := (p 0).isLt
  have h1 : (p 1).val < 2816 := (p 1).isLt
  let i : grid0.Coords := fun
    | ⟨0, _⟩ => (⟨(p 1).val / 256, by omega⟩ : Fin 11)
    | ⟨1, _⟩ => (⟨(p 0).val / 256, by omega⟩ : Fin 10)
  obtain ⟨t, ht⟩ := Pipeline.Grid.coords_surjective grid0 i
  refine ⟨t, flush0_5 t, ?_⟩
  have h := ((cfg0.win 5).blk t).view.emb_mem_set (ix2 (⟨(p 0).val % 256, by omega⟩ : Fin 256) (⟨(p 1).val % 256, by omega⟩ : Fin 256) : S256x256.Idx)
  rw [emb5, ht] at h
  have e : (ix2 (rowAt i ⟨(p 0).val % 256, by omega⟩) (colAt i ⟨(p 1).val % 256, by omega⟩) : S2560x2816.Idx) = p := by
    funext a; apply Fin.ext
    match a with
    | ⟨0, _⟩ => show 256 * ((p 0).val / 256) + (p 0).val % 256 = (p 0).val; omega
    | ⟨1, _⟩ => show 256 * ((p 1).val / 256) + (p 1).val % 256 = (p 1).val; omega
  rwa [e] at h

/-- The result array after the run. -/
theorem final (c : Dev nD) (hx : Sized m c) : (dats m 0 c).arrAt 5 cfg0.N = resultAt m c :=
  (dats m 0 c).arrAt_eq_of_cover 5 (resultAt m c) (fun t _ => flushed_eq m c hx t) cover

/-- The run: the result array ends at `resultAt`, and the arguments are unchanged. -/
theorem run (hx : ∀ c, Sized m c) : θ_run defs (onTc (τ := τ) (main (F := Ideal))) ⟨m, fun _ => 0, ρ⟩ fun r => ∀ c : Dev nD,
    r.2.mem ((c : Thread nD τ).loc main_v0) = resultAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final m c (hx c)),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 1).trans (((dats m 0 c).arrAt_in 1 rfl _).trans ((A_eq m c 1).trans (V_main_arg4 m c)))⟩)
    (run_main m ρ)

end Cert.KernelIdeal.Array
-- ==== Proof.ReferenceIdeal.Nest.lean ====
module

public import proofs.«01_k».proof.Proof.Gen.ReferenceIdeal.Value
public import Idealize.ShloMosaic.Lib.Pipeline.Value
public import Idealize.ShloMosaic.Lib.Pipeline.ValueKit.Tiles
public import Idealize.ShloMosaic.Lib.ValueIdxCore

/-! The reference's result as one expression, one expert's part written once for all four. -/

@[expose] public section

noncomputable section

namespace Cert.ReferenceIdeal.Nest

open Cert.ReferenceIdeal Cert.ReferenceIdeal.Gen
open Idealize.ShloMosaic Idealize.ShloMosaic.TcCoe

variable {F : FTy → Type} [FloatOps F]

/-- The number of the expert of each row: how many ends lie at or below it. -/
def owner (x1 : Vec F S4 .i32) : IVec S2560x1 32 :=
  k0_pay2 (F := F) (x1 (ValueIdx.ix1 0)) (x1 (ValueIdx.ix1 1)) (x1 (ValueIdx.ix1 2)) (x1 (ValueIdx.ix1 3))

/-- Rows of expert `e` take the scale whose bits are `a`. -/
def takeScale (o : IVec S2560x1 32) (e : ℕ) (a : BitVec 32) (prev : FVec F S2560x1 .f32) : FVec F S2560x1 .f32 :=
  select (cmpi .eq o (broadcast S2560x1 (BitVec.ofNat 32 e))) (broadcast S2560x1 (Scalar.ofBits .f32 a)) prev

/-- Rows of expert `e` take its dot products. -/
def takeDot (o : IVec S2560x1 32) (e : ℕ) (D prev : FVec F S2560x2816 .f32) : FVec F S2560x2816 .f32 :=
  select (broadcastTo S2560x2816 (shapeCast S2560x1 (cmpi .eq o (broadcast S2560x1 (BitVec.ofNat 32 e))) shapeCasts_S2560x1_S2560x1)
    broadcasts_S2560x1_S2560x2816) D prev

/-- The scale of each row, among the first `n` experts; zero if there is none. -/
def scales (x1 x4 : Vec F S4 .i32) : (n : ℕ) → n ≤ 4 → FVec F S2560x1 .f32
  | 0, _ => broadcast S2560x1 (Scalar.ofBits .f32 0x00000000#32)
  | n + 1, h => takeScale (owner x1) n (x4 (ValueIdx.ix1 ⟨n, h⟩)) (scales x1 x4 n (by omega))

/-- The activations over their row's power of two, clipped. -/
def quantised (a : FVec F S2560x1 .f32) (x : Vec F S2560x6144 .bf16) : FVec F S2560x6144 .bf16 :=
  extf .bf16 (truncf .fp8e4m3 (minimumf (broadcast S2560x6144 (Scalar.ofBits .f32 0x43E00000#32)) (maximumf (broadcast S2560x6144 (Scalar.ofBits .f32 0xC3E00000#32))
    (mulf (extf .f32 x bitsLt_bf16_f32) (broadcastTo S2560x6144 (exp2 (subf (broadcast S2560x1 (Scalar.ofBits .f32 0x3F800000#32))
      (addf (floor (divf (log (absf a)) (broadcast S2560x1 (Scalar.log (Scalar.ofBits .f32 0x40000000#32)))))
        (broadcast S2560x1 (Scalar.ofBits .f32 0x3F800000#32))))) broadcasts_S2560x1_S2560x6144)))) bitsLt_fp8e4m3_f32) bitsLt_fp8e4m3_bf16

theorem weights_fit (e : Fin 4) : ∀ a, (![e.val, 0, 0] : Fin 3 → ℕ) a + S1x3072x2816.size a ≤ S4x3072x2816.size a := fun a => by
  match a with
  | ⟨0, _⟩ => exact e.isLt
  | ⟨1, _⟩ => exact le_of_eq (Nat.zero_add _)
  | ⟨2, _⟩ => exact le_of_eq (Nat.zero_add _)

theorem scales_fit (e : Fin 4) : ∀ a, (![e.val, 0, 0] : Fin 3 → ℕ) a + S1x48x2816.size a ≤ S4x48x2816.size a := fun a => by
  match a with
  | ⟨0, _⟩ => exact e.isLt
  | ⟨1, _⟩ => exact le_of_eq (Nat.zero_add _)
  | ⟨2, _⟩ => exact le_of_eq (Nat.zero_add _)

/-- The bytes of expert `e`. -/
def bytesOf (x2 : Vec F S4x3072x2816 .i8) (e : Fin 4) : IVec S3072x2816 8 :=
  shapeCast S3072x2816 (View.ld x2 (Rect.unit (s := S4x3072x2816) ![e.val, 0, 0] S1x3072x2816.size (weights_fit e)))
    shapeCasts_S1x3072x2816_S3072x2816

/-- The scales of expert `e`. -/
def scaleOf (x3 : Vec F S4x48x2816 .f32) (e : Fin 4) : FVec F S48x2816 .bf16 :=
  truncf .bf16 (shapeCast S48x2816 (View.ld x3 (Rect.unit (s := S4x48x2816) ![e.val, 0, 0] S1x48x2816.size (scales_fit e)))
    shapeCasts_S1x48x2816_S48x2816) bitsLt_bf16_f32

/-- Bytes as numbers, every 128 rows times one row of scales. -/
def scaled (b : IVec S3072x2816 8) (s : FVec F S24x2816 .bf16) : FVec F S3072x2816 .bf16 :=
  shapeCast S3072x2816 (mulf (shapeCast S24x128x2816 (sitofp .bf16 b) shapeCasts_S3072x2816_S24x128x2816)
    (broadcastTo S24x128x2816 (shapeCast S24x1x2816 s shapeCasts_S24x2816_S24x1x2816) broadcasts_S24x1x2816_S24x128x2816))
    shapeCasts_S24x128x2816_S3072x2816

/-- The low halves of bytes, signed. -/
def low (b : IVec S3072x2816 8) : IVec S3072x2816 8 := shrsi (shli b (broadcast S3072x2816 4#8)) (broadcast S3072x2816 4#8)
/-- The high halves of bytes, signed. -/
def high (b : IVec S3072x2816 8) : IVec S3072x2816 8 := shrsi b (broadcast S3072x2816 4#8)

/-- The dot products of one expert: the low halves', plus the high halves'. -/
def dot (xb : FVec F S2560x6144 .bf16) (b : IVec S3072x2816 8) (s : FVec F S48x2816 .bf16) : FVec F S2560x2816 .f32 :=
  addf (matmul dot_S2560x3072_S3072x2816_S2560x2816_1_0_0_1_n_n none
      (extractStridedSlice S2560x3072 ![0, 0] xb slices_S2560x6144_o0_0_S2560x3072)
      (scaled (low b) (extractStridedSlice S24x2816 ![0, 0] s slices_S48x2816_o0_0_S24x2816)) (constant S2560x2816 .f32 0x00000000#32))
    (matmul dot_S2560x3072_S3072x2816_S2560x2816_1_0_0_1_n_n none
      (extractStridedSlice S2560x3072 ![0, 3072] xb slices_S2560x6144_o0_3072_S2560x3072)
      (scaled (high b) (extractStridedSlice S24x2816 ![24, 0] s slices_S48x2816_o24_0_S24x2816)) (constant S2560x2816 .f32 0x00000000#32))

/-- The dot products of each row, among the first `n` experts; zero if there is none. -/
def dots (xb : FVec F S2560x6144 .bf16) (x1 : Vec F S4 .i32) (x2 : Vec F S4x3072x2816 .i8) (x3 : Vec F S4x48x2816 .f32) :
    (n : ℕ) → n ≤ 4 → FVec F S2560x2816 .f32
  | 0, _ => broadcast S2560x2816 (Scalar.ofBits .f32 0x00000000#32)
  | n + 1, h => takeDot (owner x1) n (dot xb (bytesOf x2 ⟨n, h⟩) (scaleOf x3 ⟨n, h⟩)) (dots xb x1 x2 x3 n (by omega))

/-- The result: each row's dot products times its scale. -/
def result (x0 : Vec F S2560x6144 .bf16) (x1 : Vec F S4 .i32) (x2 : Vec F S4x3072x2816 .i8) (x3 : Vec F S4x48x2816 .f32)
    (x4 : Vec F S4 .i32) : FVec F S2560x2816 .bf16 :=
  truncf .bf16 (mulf (dots (quantised (scales x1 x4 4 le_rfl) x0) x1 x2 x3 4 le_rfl)
    (broadcastTo S2560x2816 (scales x1 x4 4 le_rfl) broadcasts_S2560x1_S2560x2816)) bitsLt_bf16_f32

omit [FloatOps F] in
/-- A word read from a buffer of four. -/
theorem word_eq (x : Vec F S4 .i32) (e : Fin 4) {o : Fin 1 → ℕ} (ho : o = ![e.val]) (inb : ∀ a, o a + S1.size a ≤ S4.size a) (z : S1.Idx) :
    View.ld x (Rect.unit (s := S4) o S1.size inb) z = x (ValueIdx.ix1 e) := by
  refine View.ld_unit_apply_of x _ _ inb z _ fun a => ?_
  subst ho
  match a with
  | ⟨0, _⟩ => exact (congrArg (e.val + ·) (Nat.lt_one_iff.mp (z 0).isLt)).symm

/-- The reference's block is `result`. -/
theorem out_eq (c : Dev nD) (arg0 : Memref sig .tc .vmem S2560x6144 .bf16) (harg0 : arg0.IsWhole) (arg1 : Memref sig .tc .smem S4 .i32) (harg1 : arg1.IsWhole) (arg2 : Memref sig .tc .vmem S4x3072x2816 .i8) (harg2 : arg2.IsWhole) (arg3 : Memref sig .tc .vmem S4x48x2816 .f32) (harg3 : arg3.IsWhole) (arg4 : Memref sig .tc .smem S4 .i32) (harg4 : arg4.IsWhole) (arg5 : Memref sig .tc .vmem S2560x2816 .bf16) (harg5 : arg5.IsWhole)
    (x0 : Vec F S2560x6144 .bf16) (x1 : Vec F S4 .i32) (x2 : Vec F S4x3072x2816 .i8) (x3 : Vec F S4x48x2816 .f32) (x4 : Vec F S4 .i32) :
    out0_A_5 c arg0 harg0 arg1 harg1 arg2 harg2 arg3 harg3 arg4 harg4 arg5 harg5 x0 x1 x2 x3 x4 = result x0 x1 x2 x3 x4 := by
  have hz : (![0, 0] : Fin 2 → Nat) = fun _ => 0 := by funext a; match a with | ⟨0, _⟩ => rfl | ⟨1, _⟩ => rfl
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S2560x6144) hz]
  simp only [word_eq x1 0 (o := ![0]) rfl, word_eq x1 1 (o := ![1]) rfl, word_eq x1 2 (o := ![2]) rfl, word_eq x1 3 (o := ![3]) rfl,
    word_eq x4 0 (o := ![0]) rfl, word_eq x4 1 (o := ![1]) rfl, word_eq x4 2 (o := ![2]) rfl, word_eq x4 3 (o := ![3]) rfl]
  rfl

end Cert.ReferenceIdeal.Nest
-- ==== Proof.ReferenceIdeal.Array.lean ====
module

public import proofs.«01_k».proof.Proof.ReferenceIdeal.Nest

/-! The reference's result array after the run, as a function of its arguments. -/

@[expose] public section

noncomputable section

namespace Cert.ReferenceIdeal.Array

open Cert.ReferenceIdeal Cert.ReferenceIdeal.Gen Cert.ReferenceIdeal.Value
open Idealize.ShloMosaic Idealize.ShloMosaic.TcCoe Idealize.SL.Sem

variable {F : FTy → Type} [FloatOps F]
variable (m : (ℓ : Loc nD τ sig) → Buf (Elt F) ℓ) (ρ : Dev nD → PrngReg)

/-- A window's one block is its whole array. -/
theorem emb0 (t : Fin cfg0.N) (j : S2560x6144.Idx) : ((cfg0.win 0).blk t).view.emb j = j := by
  funext a; apply Fin.ext
  match a with
  | ⟨0, _⟩ => show 0 * 2560 + 1 * (j 0).val = (j 0).val; omega
  | ⟨1, _⟩ => show 0 * 6144 + 1 * (j 1).val = (j 1).val; omega

theorem emb1 (t : Fin cfg0.N) (j : S4.Idx) : ((cfg0.win 1).blk t).view.emb j = j := by
  funext a; apply Fin.ext
  match a with
  | ⟨0, _⟩ => show 0 * 4 + 1 * (j 0).val = (j 0).val; omega

theorem emb2 (t : Fin cfg0.N) (j : S4x3072x2816.Idx) : ((cfg0.win 2).blk t).view.emb j = j := by
  funext a; apply Fin.ext
  match a with
  | ⟨0, _⟩ => show 0 * 4 + 1 * (j 0).val = (j 0).val; omega
  | ⟨1, _⟩ => show 0 * 3072 + 1 * (j 1).val = (j 1).val; omega
  | ⟨2, _⟩ => show 0 * 2816 + 1 * (j 2).val = (j 2).val; omega

theorem emb3 (t : Fin cfg0.N) (j : S4x48x2816.Idx) : ((cfg0.win 3).blk t).view.emb j = j := by
  funext a; apply Fin.ext
  match a with
  | ⟨0, _⟩ => show 0 * 4 + 1 * (j 0).val = (j 0).val; omega
  | ⟨1, _⟩ => show 0 * 48 + 1 * (j 1).val = (j 1).val; omega
  | ⟨2, _⟩ => show 0 * 2816 + 1 * (j 2).val = (j 2).val; omega

theorem emb4 (t : Fin cfg0.N) (j : S4.Idx) : ((cfg0.win 4).blk t).view.emb j = j := by
  funext a; apply Fin.ext
  match a with
  | ⟨0, _⟩ => show 0 * 4 + 1 * (j 0).val = (j 0).val; omega

theorem emb5 (t : Fin cfg0.N) (j : S2560x2816.Idx) : ((cfg0.win 5).blk t).view.emb j = j := by
  funext a; apply Fin.ext
  match a with
  | ⟨0, _⟩ => show 0 * 2560 + 1 * (j 0).val = (j 0).val; omega
  | ⟨1, _⟩ => show 0 * 2816 + 1 * (j 1).val = (j 1).val; omega

theorem iblk0_eq (c : Dev nD) (t : Fin cfg0.N) : iblk m c 0 t = m ((c : Thread nD τ).loc main_arg0) := by
  funext j; show V m c main_arg0 (((cfg0.win 0).blk t).view.emb j) = V m c main_arg0 j; rw [emb0]
theorem iblk1_eq (c : Dev nD) (t : Fin cfg0.N) : iblk m c 1 t = m ((c : Thread nD τ).loc main_arg1) := by
  funext j; show V m c main_arg1 (((cfg0.win 1).blk t).view.emb j) = V m c main_arg1 j; rw [emb1]
theorem iblk2_eq (c : Dev nD) (t : Fin cfg0.N) : iblk m c 2 t = m ((c : Thread nD τ).loc main_arg2) := by
  funext j; show V m c main_arg2 (((cfg0.win 2).blk t).view.emb j) = V m c main_arg2 j; rw [emb2]
theorem iblk3_eq (c : Dev nD) (t : Fin cfg0.N) : iblk m c 3 t = m ((c : Thread nD τ).loc main_arg3) := by
  funext j; show V m c main_arg3 (((cfg0.win 3).blk t).view.emb j) = V m c main_arg3 j; rw [emb3]
theorem iblk4_eq (c : Dev nD) (t : Fin cfg0.N) : iblk m c 4 t = m ((c : Thread nD τ).loc main_arg4) := by
  funext j; show V m c main_arg4 (((cfg0.win 4).blk t).view.emb j) = V m c main_arg4 j; rw [emb4]

/-- The result from the arguments. -/
abbrev resultAt (c : Dev nD) : Vec F S2560x2816 .bf16 :=
  Nest.result (m ((c : Thread nD τ).loc main_arg0)) (m ((c : Thread nD τ).loc main_arg1)) (m ((c : Thread nD τ).loc main_arg2))
    (m ((c : Thread nD τ).loc main_arg3)) (m ((c : Thread nD τ).loc main_arg4))

/-- What the one point writes back is the result. -/
theorem flushed_eq (c : Dev nD) (t : Fin cfg0.N) :
    (dats m 0 c).flushed 5 t = ((cfg0.win 5).blk t).view.read (Elt F) (resultAt m c) := by
  rw [flushed5_A, Nest.out_eq, iblk0_eq, iblk1_eq, iblk2_eq, iblk3_eq, iblk4_eq]
  funext j
  show resultAt m c j = resultAt m c (((cfg0.win 5).blk t).view.emb j)
  rw [emb5]

theorem cover (p : S2560x2816.Idx) : ∃ t : Fin cfg0.N, (cfg0.win 5).flush t = true ∧ p ∈ ((cfg0.win 5).blk t).view.set :=
  ⟨(⟨0, by decide⟩ : Fin cfg0.N), flush0_5 _, by
    have h := ((cfg0.win 5).blk (⟨0, by decide⟩ : Fin cfg0.N)).view.emb_mem_set p; rwa [emb5] at h⟩

/-- The result array after the run. -/
theorem final (c : Dev nD) : (dats m 0 c).arrAt 5 cfg0.N = resultAt m c :=
  (dats m 0 c).arrAt_eq_of_cover 5 (resultAt m c) (fun t _ => flushed_eq m c t) cover

/-- The run: the result array ends at `resultAt`, and the arguments are unchanged. -/
theorem run : θ_run defs (onTc (τ := τ) (main (F := F))) ⟨m, fun _ => 0, ρ⟩ fun r => ∀ c : Dev nD,
    r.2.mem ((c : Thread nD τ).loc main_v0) = resultAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h c).1.trans (final m c), (h c).2⟩) (run_blocks m ρ)

end Cert.ReferenceIdeal.Array
-- ==== Proof.Scale.lean ====
/-
  The power of two that a static scale's word names, read two ways.

  The kernel forms it from the word: with `e` the word's exponent field, the word `(254 - e) << 23` is the float
  `2 ^ (127 - e)`. The reference forms it from the value: with `E = ⌊log₂ |scale|⌋ + 1` (frexp's exponent), `2 ^ (1 - E)`.
  For a normal scale whose field is at most 253 the two are one number (`reciprocal_eq`).
-/
module

public import Idealize.ShloMosaic.PureOps.Ideal
public import Idealize.ShloMosaic.PureOps.Float
public import Mathlib.Tactic.IntervalCases

@[expose] public section

noncomputable section

namespace Cert.Scale

open Idealize.ShloMosaic

/-- The exponent field of a 32-bit float's word. -/
def field (b : BitVec 32) : BitVec 8 := b.extractLsb' 23 8

/-- The arithmetic shift by 23 and the mask 255 leave the exponent field. -/
theorem shift_mask (b : BitVec 32) : b.sshiftRight' 23#32 &&& 255#32 = (field b).setWidth 32 := by
  apply BitVec.eq_of_getLsbD_eq
  intro i hi
  have h255 : (255#32 : BitVec 32).getLsbD i = decide (i < 8) := by
    interval_cases i <;> rfl
  simp only [BitVec.getLsbD_and, h255, BitVec.getLsbD_setWidth, field, BitVec.getLsbD_extractLsb', BitVec.sshiftRight']
  rw [show (23#32).toNat = 23 from rfl, BitVec.getLsbD_sshiftRight]
  by_cases h : i < 8
  · have h1 : 23 + i < 32 := by omega
    simp [h, hi, h1]
  · simp [h]

/-- The reciprocal's word: its sign and fraction are clear and its exponent field is `254 - e`. -/
theorem word_fields : ∀ e : BitVec 8, e.toNat ≤ 253 →
    ((254#32 - e.setWidth 32) <<< 23#32).extractLsb' 31 1 = 0#1
    ∧ (((254#32 - e.setWidth 32) <<< 23#32).extractLsb' 23 8).toNat = 254 - e.toNat
    ∧ (((254#32 - e.setWidth 32) <<< 23#32).extractLsb' 0 23).toNat = 0 := by
  decide +kernel

/-- The reciprocal's word denotes `2 ^ (127 - e)`. -/
theorem word_value (e : BitVec 8) (h1 : 1 ≤ e.toNat) (h2 : e.toNat ≤ 253) :
    Ideal.ofBits .f32 ((254#32 - e.setWidth 32) <<< 23#32) = (((2 : ℝ) ^ ((127 : Int) - e.toNat) : ℝ) : EReal) := by
  obtain ⟨hs, he, hf⟩ := word_fields e h2
  show Ideal.ieee 8 23 _ = _
  unfold Ideal.ieee
  simp only [Nat.reduceAdd, hs, he, hf]
  rw [if_neg (by omega), if_neg (by omega)]
  refine congrArg (fun r : ℝ => (r : EReal)) ?_
  rw [if_neg (by decide), one_mul, Nat.add_zero, Nat.cast_pow, Nat.cast_ofNat, ← zpow_natCast, ← zpow_add₀ (by norm_num)]
  refine congrArg (fun k : ℤ => (2 : ℝ) ^ k) ?_
  omega

/-- The value of a normal word: a sign times a significand in `[2 ^ 23, 2 ^ 24)` times a power of two. -/
theorem normal_value (b : BitVec 32) (h1 : 1 ≤ (field b).toNat) (h2 : (field b).toNat ≤ 253) :
    ∃ (s : ℝ) (n : ℕ), (s = 1 ∨ s = -1) ∧ 2 ^ 23 ≤ n ∧ n < 2 ^ 24
      ∧ Ideal.ofBits .f32 b = ((s * n * (2 : ℝ) ^ (((field b).toNat : Int) - 150) : ℝ) : EReal) := by
  refine ⟨if (b.extractLsb' 31 1 == 1#1) then -1 else 1, 2 ^ 23 + (b.extractLsb' 0 23).toNat, ?_, by omega, ?_, ?_⟩
  · split <;> simp
  · have := (b.extractLsb' 0 23).isLt; omega
  · show Ideal.ieee 8 23 b = _
    unfold Ideal.ieee
    simp only [Nat.reduceAdd]
    have hf : (b.extractLsb' 23 8).toNat = (field b).toNat := rfl
    rw [hf, if_neg (by omega), if_neg (by omega)]
    congr 2
    congr 1
    ring

/-- The logarithm to base 2 of such a magnitude lies in `[e - 127, e - 126)`. -/
theorem floor_log (n : ℕ) (k : ℤ) (h1 : 2 ^ 23 ≤ n) (h2 : n < 2 ^ 24) :
    ⌊Real.log ((n : ℝ) * (2 : ℝ) ^ (k - 150)) / Real.log 2⌋ = k - 127 := by
  have hn : (0 : ℝ) < n := by
    have : 0 < n := lt_of_lt_of_le (by norm_num) h1
    exact_mod_cast this
  have hr : (0 : ℝ) < (n : ℝ) * (2 : ℝ) ^ (k - 150) := mul_pos hn (zpow_pos (by norm_num) _)
  have e1 : ((2 : ℝ) ^ (k - 127)) = (2 : ℝ) ^ (23 : ℕ) * (2 : ℝ) ^ (k - 150) := by
    rw [← zpow_natCast, ← zpow_add₀ (by norm_num)]; congr 1; push_cast; ring
  have e2 : ((2 : ℝ) ^ (k - 127 + 1)) = (2 : ℝ) ^ (24 : ℕ) * (2 : ℝ) ^ (k - 150) := by
    rw [← zpow_natCast, ← zpow_add₀ (by norm_num)]; congr 1; push_cast; ring
  have p : (0 : ℝ) < (2 : ℝ) ^ (k - 150) := zpow_pos (by norm_num) _
  have b1 : (2 : ℝ) ^ (k - 127) ≤ (n : ℝ) * (2 : ℝ) ^ (k - 150) := by
    rw [e1]; exact mul_le_mul_of_nonneg_right (by exact_mod_cast h1) p.le
  have b2 : (n : ℝ) * (2 : ℝ) ^ (k - 150) < (2 : ℝ) ^ (k - 127 + 1) := by
    rw [e2]; exact mul_lt_mul_of_pos_right (by exact_mod_cast h2) p
  have hl2 : 0 < Real.log 2 := Real.log_pos (by norm_num)
  rw [Int.floor_eq_iff]
  constructor
  · rw [le_div_iff₀ hl2, ← Real.log_zpow]
    exact Real.log_le_log (zpow_pos (by norm_num) _) b1
  · have : (((k - 127 : ℤ) : ℝ) + 1) = ((k - 127 + 1 : ℤ) : ℝ) := by push_cast; ring
    rw [this, div_lt_iff₀ hl2, ← Real.log_zpow]
    exact Real.log_lt_log hr b2

/-- The 32-bit float 2. -/
theorem two_word : Ideal.ofBits .f32 0x40000000#32 = ((2 : ℝ) : EReal) := by
  simp [Ideal.ofBits, Ideal.ieee, -EReal.coe_mul]; norm_num

/-- The 32-bit float 1. -/
theorem one_word : Ideal.ofBits .f32 0x3F800000#32 = 1 := by
  simp [Ideal.ofBits, Ideal.ieee, -EReal.coe_mul]; norm_num

/-- The magnitude of a signed positive number. -/
theorem magnitude (s r : ℝ) (hs : s = 1 ∨ s = -1) (hr : 0 < r) :
    max ((s * r : ℝ) : EReal) (-((s * r : ℝ) : EReal)) = ((r : ℝ) : EReal) := by
  rw [← EReal.coe_neg]
  rcases hs with rfl | rfl
  · rw [one_mul, max_eq_left]; exact EReal.coe_le_coe_iff.2 (by linarith)
  · rw [max_eq_right]
    · congr 1; ring
    · exact EReal.coe_le_coe_iff.2 (by linarith)

/-- Two to the power `1 - E`, `E` being frexp's exponent of the value of the word `b`. -/
def byValue (x : EReal) : EReal :=
  Ideal.exp2 (1 - (Ideal.liftRound Int.floor (Ideal.div (Ideal.log (max x (-x))) (Ideal.log (Ideal.ofBits .f32 0x40000000#32))) + 1))

/-- The two readings agree on a normal word whose exponent field is at most 253. -/
theorem reciprocal_eq (b : BitVec 32) (h1 : 1 ≤ (field b).toNat) (h2 : (field b).toNat ≤ 253) :
    Ideal.ofBits .f32 ((254#32 - (b.sshiftRight' 23#32 &&& 255#32)) <<< 23#32) = byValue (Ideal.ofBits .f32 b) := by
  rw [shift_mask, word_value _ h1 h2]
  obtain ⟨s, n, hs, hn1, hn2, hv⟩ := normal_value b h1 h2
  generalize hk : ((field b).toNat : ℤ) = k at hv ⊢
  have hr : (0 : ℝ) < (n : ℝ) * (2 : ℝ) ^ (k - 150) := by
    have : 0 < n := lt_of_lt_of_le (by norm_num) hn1
    exact mul_pos (by exact_mod_cast this) (zpow_pos (by norm_num) _)
  unfold byValue
  rw [hv, mul_assoc, magnitude _ _ hs hr, two_word]
  have hl2 : Real.log 2 ≠ 0 := (Real.log_pos (by norm_num)).ne'
  have hlog (r : ℝ) (h : 0 < r) : Ideal.log ((r : ℝ) : EReal) = ((Real.log r : ℝ) : EReal) := by
    show (if r ≤ 0 then (⊥ : EReal) else _) = _
    rw [if_neg (not_le.2 h)]
  rw [hlog _ hr, hlog _ (by norm_num)]
  unfold Ideal.div
  rw [if_neg (by exact_mod_cast hl2), ← EReal.coe_inv, ← EReal.coe_mul, ← div_eq_mul_inv, Ideal.liftRound_coe,
    floor_log n k hn1 hn2]
  have e : (1 : EReal) - ((((k - 127 : ℤ) : ℝ) : EReal) + 1) = ((((127 - k : ℤ) : ℝ)) : EReal) := by
    rw [← EReal.coe_one, ← EReal.coe_add, ← EReal.coe_sub]; congr 1; push_cast; ring
  rw [e]
  show _ = ((Real.rpow 2 ((127 - k : ℤ) : ℝ) : ℝ) : EReal)
  congr 1
  exact (Real.rpow_intCast 2 (127 - k)).symm

end Cert.Scale

end
-- ==== Proof.ReferenceIdeal.Element.lean ====
module

public import proofs.«01_k».proof.Proof.ReferenceIdeal.Nest
public import proofs.«01_k».proof.Proof.Spec
public import proofs.«01_k».proof.Proof.Rows
public import proofs.«01_k».proof.Proof.Scale
public import Idealize.ShloMosaic.Lib.MatmulPlain
public import Idealize.ShloMosaic.Lib.ValueIdx

/-! The reference's result at one entry, over the extended reals. -/

@[expose] public section

noncomputable section

open scoped BigOperators

namespace Cert.ReferenceIdeal.Element

open Cert.ReferenceIdeal Cert.ReferenceIdeal.Gen Cert.ReferenceIdeal.Nest
open Idealize.ShloMosaic Idealize.ShloMosaic.TcCoe Idealize.ShloMosaic.ValueIdx

/-- The sizes of the experts, as a function of the expert. -/
abbrev sizes (x1 : Vec Ideal S4 .i32) : Fin 4 → BitVec 32 := fun e => x1 (ix1 e)

theorem add_word (a : ℕ) (w : BitVec 32) : IntOp.addi (BitVec.ofNat 32 a) w = BitVec.ofNat 32 (a + w.toNat) := by
  rw [BitVec.ofNat_add, BitVec.ofNat_toNat, BitVec.setWidth_eq]
  rfl

/-- One comparison of an end with the row adds one or nothing to the count. -/
theorem add_bit (k a row : ℕ) (ha : a < 2 ^ (32 - 1)) (hr : row < 2 ^ (32 - 1)) :
    IntOp.addi (BitVec.ofNat 32 k) ((IntOp.cmpi .sle (BitVec.ofNat 32 a) (BitVec.ofNat 32 row)).setWidth 32)
      = BitVec.ofNat 32 (k + if a ≤ row then 1 else 0) := by
  rw [WordCmp.cmpi_sle_ofNat ha hr, add_word]
  by_cases h : a ≤ row
  · rw [if_pos h, decide_eq_true h]; rfl
  · rw [if_neg h, decide_eq_false h]; rfl

/-- The number of a row's expert, as the reference counts it. -/
theorem owner_apply (x1 : Vec Ideal S4 .i32) (hx : Rows.Fits (sizes x1)) (r : Fin 2560) :
    owner (F := Ideal) x1 (ix2 r 0) = BitVec.ofNat 32 (Rows.count (sizes x1) r.val) := by
  have hr : r.val < 2 ^ (32 - 1) := lt_trans r.isLt (by norm_num)
  have e1 := Rows.ends_lt (sizes x1) hx 1 (by omega)
  have e2 := Rows.ends_lt (sizes x1) hx 2 (by omega)
  have e3 := Rows.ends_lt (sizes x1) hx 3 (by omega)
  have e4 := Rows.ends_lt (sizes x1) hx 4 le_rfl
  have a1 : IntOp.addi 0#32 (x1 (ix1 0)) = BitVec.ofNat 32 (Rows.ends (sizes x1) 1 (by omega)) := add_word _ _
  have a2 : IntOp.addi (BitVec.ofNat 32 (Rows.ends (sizes x1) 1 (by omega))) (x1 (ix1 1)) = BitVec.ofNat 32 (Rows.ends (sizes x1) 2 (by omega)) := add_word _ _
  have a3 : IntOp.addi (BitVec.ofNat 32 (Rows.ends (sizes x1) 2 (by omega))) (x1 (ix1 2)) = BitVec.ofNat 32 (Rows.ends (sizes x1) 3 (by omega)) := add_word _ _
  have a4 : IntOp.addi (BitVec.ofNat 32 (Rows.ends (sizes x1) 3 (by omega))) (x1 (ix1 3)) = BitVec.ofNat 32 (Rows.ends (sizes x1) 4 le_rfl) := add_word _ _
  have hrow : BitVec.ofNat 32 (0 * 2560 + r.val) = BitVec.ofNat 32 r.val := by rw [Nat.zero_mul, Nat.zero_add]
  show IntOp.addi (IntOp.addi (IntOp.addi (IntOp.addi 0#32
    ((IntOp.cmpi .sle (IntOp.addi 0#32 (x1 (ix1 0))) (BitVec.ofNat 32 (0 * 2560 + r.val))).setWidth 32))
    ((IntOp.cmpi .sle (IntOp.addi (IntOp.addi 0#32 (x1 (ix1 0))) (x1 (ix1 1))) (BitVec.ofNat 32 (0 * 2560 + r.val))).setWidth 32))
    ((IntOp.cmpi .sle (IntOp.addi (IntOp.addi (IntOp.addi 0#32 (x1 (ix1 0))) (x1 (ix1 1))) (x1 (ix1 2))) (BitVec.ofNat 32 (0 * 2560 + r.val))).setWidth 32))
    ((IntOp.cmpi .sle (IntOp.addi (IntOp.addi (IntOp.addi (IntOp.addi 0#32 (x1 (ix1 0))) (x1 (ix1 1))) (x1 (ix1 2))) (x1 (ix1 3))) (BitVec.ofNat 32 (0 * 2560 + r.val))).setWidth 32) = _
  rw [hrow, a1, a2, a3, a4, add_bit _ _ _ e1 hr, add_bit _ _ _ e2 hr, add_bit _ _ _ e3 hr, add_bit _ _ _ e4 hr, Nat.zero_add]
  rfl

theorem eq_bit {α : Type} (c e : ℕ) (hc : c < 2 ^ 32) (he : e < 2 ^ 32) (a b : α) :
    (if IntOp.cmpi .eq (BitVec.ofNat 32 c) (BitVec.ofNat 32 e) = 1#1 then a else b) = if c = e then a else b := by
  refine if_congr ?_ rfl rfl
  rw [WordCmp.cmpi_eq_ofNat hc he, WordCmp.ofBool_decide_eq_one_iff]

theorem takeScale_apply (o : IVec S2560x1 32) (e : ℕ) (he : e < 2 ^ 32) (a : BitVec 32) (prev : FVec Ideal S2560x1 .f32) (r : Fin 2560)
    (c : ℕ) (hc : c < 2 ^ 32) (ho : o (ix2 r 0) = BitVec.ofNat 32 c) :
    takeScale o e a prev (ix2 r 0) = if c = e then Ideal.ofBits .f32 a else prev (ix2 r 0) := by
  show (if IntOp.cmpi .eq (o (ix2 r 0)) (BitVec.ofNat 32 e) = 1#1 then Ideal.ofBits .f32 a else prev (ix2 r 0)) = _
  rw [ho, eq_bit c e hc he]

theorem takeDot_apply (o : IVec S2560x1 32) (e : ℕ) (he : e < 2 ^ 32) (D prev : FVec Ideal S2560x2816 .f32) (r : Fin 2560) (j : Fin 2816)
    (c : ℕ) (hc : c < 2 ^ 32) (ho : o (ix2 r 0) = BitVec.ofNat 32 c) :
    takeDot o e D prev (ix2 r j) = if c = e then D (ix2 r j) else prev (ix2 r j) := by
  unfold takeDot
  rw [shapeCast_self]
  show (if broadcastTo S2560x2816 (cmpi .eq o (broadcast S2560x1 (BitVec.ofNat 32 e))) broadcasts_S2560x1_S2560x2816 (ix2 r j) = 1#1
    then D (ix2 r j) else prev (ix2 r j)) = _
  rw [← eq_bit c e hc he, ← ho]
  refine if_congr (iff_of_eq (congrArg (· = 1#1) ?_)) rfl rfl
  refine broadcastTo_apply _ broadcasts_S2560x1_S2560x2816 (ix2 r j) (ix2 r 0) fun x => ?_
  match x with
  | ⟨0, _⟩ => rfl
  | ⟨1, _⟩ => rfl

theorem count_lt (x1 : Vec Ideal S4 .i32) (row : ℕ) : Rows.count (sizes x1) row < 2 ^ 32 :=
  lt_of_le_of_lt (Rows.count_le _ _) (by norm_num)

/-- The scale of a row. -/
theorem scales_apply (x1 x4 : Vec Ideal S4 .i32) (hx : Rows.Fits (sizes x1)) (r : Fin 2560) : ∀ (n : ℕ) (h : n ≤ 4),
    scales x1 x4 n h (ix2 r 0) = Rows.nth (Rows.count (sizes x1) r.val) (fun e => Ideal.ofBits .f32 (x4 (ix1 e))) n h
  | 0, _ => Ideal.ofBits_zero_f32
  | n + 1, h => by
    unfold scales Rows.nth
    rw [takeScale_apply _ n (by omega) _ _ r _ (count_lt x1 r.val) (owner_apply x1 hx r), scales_apply x1 x4 hx r n]

/-- The quantised activations at one entry. -/
theorem quantised_apply (a : FVec Ideal S2560x1 .f32) (x : Vec Ideal S2560x6144 .bf16) (r : Fin 2560) (k : Fin 6144) :
    quantised a x (ix2 r k) = Spec.clipped (x (ix2 r k) * Scale.byValue (a (ix2 r 0))) := by
  refine congrArg (fun v => Spec.clipped (x (ix2 r k) * v)) ?_
  refine (broadcastTo_apply _ broadcasts_S2560x1_S2560x6144 (ix2 r k) (ix2 r 0) fun y => ?_).trans ?_
  · match y with
    | ⟨0, _⟩ => rfl
    | ⟨1, _⟩ => rfl
  · unfold Scale.byValue
    rw [← Scale.one_word]
    rfl

theorem bytesOf_apply (x2 : Vec Ideal S4x3072x2816 .i8) (e : Fin 4) (k : Fin 3072) (j : Fin 2816) :
    bytesOf (F := Ideal) x2 e (ix2 k j) = x2 (ix3 e k j) := by
  refine (shapeCast_apply _ _ (ix2 k j) (ix3 0 k j) ?_).trans ?_
  · rw [Shape.rowMajor_val_three, Shape.rowMajor_val_two]
    show (0 * 3072 + k.val) * 2816 + j.val = k.val * 2816 + j.val
    omega
  · refine View.ld_unit_apply_of x2 _ _ _ (ix3 0 k j) _ fun a => ?_
    match a with
    | ⟨0, _⟩ => rfl
    | ⟨1, _⟩ => exact (Nat.zero_add _).symm
    | ⟨2, _⟩ => exact (Nat.zero_add _).symm

theorem scaleOf_apply (x3 : Vec Ideal S4x48x2816 .f32) (e : Fin 4) (g : Fin 48) (j : Fin 2816) :
    scaleOf x3 e (ix2 g j) = x3 (ix3 e g j) := by
  show shapeCast S48x2816 (View.ld x3 (Rect.unit (s := S4x48x2816) ![e.val, 0, 0] S1x48x2816.size (scales_fit e)))
    shapeCasts_S1x48x2816_S48x2816 (ix2 g j) = _
  refine (shapeCast_apply _ shapeCasts_S1x48x2816_S48x2816 (ix2 g j) (ix3 0 g j) ?_).trans ?_
  · rw [Shape.rowMajor_val_three, Shape.rowMajor_val_two]
    show (0 * 48 + g.val) * 2816 + j.val = g.val * 2816 + j.val
    omega
  · refine View.ld_unit_apply_of x3 _ _ _ (ix3 0 g j) _ fun a => ?_
    match a with
    | ⟨0, _⟩ => rfl
    | ⟨1, _⟩ => exact (Nat.zero_add _).symm
    | ⟨2, _⟩ => exact (Nat.zero_add _).symm

/-- Scaled bytes at one entry. -/
theorem scaled_apply (b : IVec S3072x2816 8) (s : FVec Ideal S24x2816 .bf16) (k : Fin 3072) (j : Fin 2816) :
    scaled b s (ix2 k j) = Spec.num (b (ix2 k j)) * s (ix2 ⟨k.val / 128, by omega⟩ j) := by
  refine (shapeCast_apply _ shapeCasts_S24x128x2816_S3072x2816 (ix2 k j) (ix3 (⟨k.val / 128, by omega⟩ : Fin 24) (⟨k.val % 128, by omega⟩ : Fin 128) j) ?_).trans ?_
  · rw [Shape.rowMajor_val_three, Shape.rowMajor_val_two]
    show (k.val / 128 * 128 + k.val % 128) * 2816 + j.val = k.val * 2816 + j.val
    omega
  · refine congrArg₂ (fun a b : EReal => a * b) ?_ ?_
    · refine (shapeCast_apply _ shapeCasts_S3072x2816_S24x128x2816 _ (ix2 k j) ?_).trans rfl
      rw [Shape.rowMajor_val_three, Shape.rowMajor_val_two]
      show k.val * 2816 + j.val = (k.val / 128 * 128 + k.val % 128) * 2816 + j.val
      omega
    · refine (broadcastTo_apply _ broadcasts_S24x1x2816_S24x128x2816 _ (ix3 (⟨k.val / 128, by omega⟩ : Fin 24) (0 : Fin 1) j) fun a => ?_).trans ?_
      · match a with
        | ⟨0, _⟩ => rfl
        | ⟨1, _⟩ => rfl
        | ⟨2, _⟩ => rfl
      · refine shapeCast_apply s shapeCasts_S24x2816_S24x1x2816 _ (ix2 ⟨k.val / 128, by omega⟩ j) ?_
        rw [Shape.rowMajor_val_three, Shape.rowMajor_val_two]
        show k.val / 128 * 2816 + j.val = (k.val / 128 * 1 + 0) * 2816 + j.val
        omega

/-- A product of half the activations with half the weights, at one entry. -/
theorem half_apply (A : FVec Ideal S2560x3072 .bf16) (B : FVec Ideal S3072x2816 .bf16) (r : Fin 2560) (j : Fin 2816) :
    matmul (F := Ideal) dot_S2560x3072_S3072x2816_S2560x2816_1_0_0_1_n_n none A B (constant S2560x2816 .f32 0x00000000#32) (ix2 r j)
      = ∑ k : Fin 3072, A (ix2 r k) * B (ix2 k j) := by
  show FloatOps.matmul (DotDims.plain 2560 3072 2816) none A B (constant S2560x2816 .f32 0x00000000#32) (ix2 r j) = _
  rw [Ideal.matmul_plain_apply]
  show Ideal.ofBits .f32 0x00000000#32 + _ = _
  rw [Ideal.ofBits_zero_f32, zero_add]

/-- One expert's dot products at one entry. -/
theorem dot_apply (xb : FVec Ideal S2560x6144 .bf16) (b : IVec S3072x2816 8) (s : FVec Ideal S48x2816 .bf16) (r : Fin 2560) (j : Fin 2816) :
    dot xb b s (ix2 r j) = Spec.dot (fun k => xb (ix2 r k)) (fun k => b (ix2 k j)) (fun g => s (ix2 g j)) := by
  refine congrArg₂ (fun a b : EReal => a + b) ((half_apply _ _ r j).trans (Finset.sum_congr rfl fun k _ => ?_))
    ((half_apply _ _ r j).trans (Finset.sum_congr rfl fun k _ => ?_))
  · rw [scaled_apply]
    refine congrArg₂ (fun a b : EReal => a * b) ?_ (congrArg₂ (fun a b : EReal => a * b) rfl ?_)
    · refine extractStridedSlice_apply _ xb slices_S2560x6144_o0_0_S2560x3072 (ix2 r k) _ fun a => ?_
      match a with
      | ⟨0, _⟩ => exact (Nat.zero_add _).symm
      | ⟨1, _⟩ => exact (Nat.zero_add _).symm
    · refine extractStridedSlice_apply _ s slices_S48x2816_o0_0_S24x2816 _ _ fun a => ?_
      match a with
      | ⟨0, _⟩ => exact (Nat.zero_add _).symm
      | ⟨1, _⟩ => exact (Nat.zero_add _).symm
  · rw [scaled_apply]
    refine congrArg₂ (fun a b : EReal => a * b) ?_ (congrArg₂ (fun a b : EReal => a * b) rfl ?_)
    · refine extractStridedSlice_apply _ xb slices_S2560x6144_o0_3072_S2560x3072 (ix2 r k) _ fun a => ?_
      match a with
      | ⟨0, _⟩ => exact (Nat.zero_add _).symm
      | ⟨1, _⟩ => rfl
    · refine extractStridedSlice_apply _ s slices_S48x2816_o24_0_S24x2816 _ _ fun a => ?_
      match a with
      | ⟨0, _⟩ => rfl
      | ⟨1, _⟩ => exact (Nat.zero_add _).symm

/-- The dot products of a row's expert. -/
theorem dots_apply (xb : FVec Ideal S2560x6144 .bf16) (x1 : Vec Ideal S4 .i32) (x2 : Vec Ideal S4x3072x2816 .i8) (x3 : Vec Ideal S4x48x2816 .f32)
    (hx : Rows.Fits (sizes x1)) (r : Fin 2560) (j : Fin 2816) : ∀ (n : ℕ) (h : n ≤ 4),
    dots xb x1 x2 x3 n h (ix2 r j) = Rows.nth (Rows.count (sizes x1) r.val)
      (fun e => Spec.dot (fun k => xb (ix2 r k)) (fun k => x2 (ix3 e k j)) (fun g => x3 (ix3 e g j))) n h
  | 0, _ => Ideal.ofBits_zero_f32
  | n + 1, h => by
    unfold dots Rows.nth
    rw [takeDot_apply _ n (by omega) _ _ r j _ (count_lt x1 r.val) (owner_apply x1 hx r), dots_apply xb x1 x2 x3 hx r j n, dot_apply]
    simp only [bytesOf_apply, scaleOf_apply]

/-- The result at one entry. -/
theorem result_apply (x0 : Vec Ideal S2560x6144 .bf16) (x1 : Vec Ideal S4 .i32) (x2 : Vec Ideal S4x3072x2816 .i8) (x3 : Vec Ideal S4x48x2816 .f32)
    (x4 : Vec Ideal S4 .i32) (hx : Rows.Fits (sizes x1)) (r : Fin 2560) (j : Fin 2816) :
    result x0 x1 x2 x3 x4 (ix2 r j)
      = Rows.nth (Rows.count (sizes x1) r.val) (fun e => Spec.dot
          (fun k => Spec.clipped (x0 (ix2 r k) * Scale.byValue
            (Rows.nth (Rows.count (sizes x1) r.val) (fun e => Ideal.ofBits .f32 (x4 (ix1 e))) 4 le_rfl)))
          (fun k => x2 (ix3 e k j)) (fun g => x3 (ix3 e g j))) 4 le_rfl
        * Rows.nth (Rows.count (sizes x1) r.val) (fun e => Ideal.ofBits .f32 (x4 (ix1 e))) 4 le_rfl := by
  refine congrArg₂ (fun a b : EReal => a * b) ?_ ?_
  · rw [dots_apply _ x1 x2 x3 hx r j]
    simp only [quantised_apply, scales_apply x1 x4 hx]
  · refine (broadcastTo_apply _ broadcasts_S2560x1_S2560x2816 (ix2 r j) (ix2 r 0) fun y => ?_).trans (scales_apply x1 x4 hx r 4 le_rfl)
    match y with
    | ⟨0, _⟩ => rfl
    | ⟨1, _⟩ => rfl

end Cert.ReferenceIdeal.Element
-- ==== Proof.Equation.lean ====
module

public import proofs.«01_k».proof.Proof.KernelIdeal.Array
public import proofs.«01_k».proof.Proof.ReferenceIdeal.Element

/-! The kernel's result and the reference's are the same function of the arguments. -/

@[expose] public section

noncomputable section

namespace Cert.Equation

open Idealize.ShloMosaic Idealize.ShloMosaic.ValueIdx

/-- On sizes whose sums do not overflow and scales whose exponent field lies from 1 to 253, the two results agree at every entry. -/
theorem result_eq (x : Vec Ideal KernelIdeal.S2560x6144 .bf16) (gs : Vec Ideal KernelIdeal.S4 .i32)
    (w : Vec Ideal KernelIdeal.S4x3072x2816 .i8) (s : Vec Ideal KernelIdeal.S4x48x2816 .f32) (a : Vec Ideal KernelIdeal.S4 .i32)
    (hx : Rows.Fits (ReferenceIdeal.Element.sizes gs))
    (ha : ∀ e : Fin 4, 1 ≤ (Scale.field (a (ix1 e))).toNat ∧ (Scale.field (a (ix1 e))).toNat ≤ 253) :
    KernelIdeal.Array.result x gs w s a = ReferenceIdeal.Nest.result x gs w s a := by
  funext p
  obtain ⟨r, j, rfl⟩ : ∃ (r : Fin 2560) (j : Fin 2816), p = (ix2 r j : KernelIdeal.S2560x2816.Idx) := ⟨p 0, p 1, eq_ix2 p⟩
  refine Eq.trans ?_ (ReferenceIdeal.Element.result_apply x gs w s a hx r j).symm
  show Rows.pick (ReferenceIdeal.Element.sizes gs) r.val (fun e => Spec.dot (fun k => Spec.clipped (x (ix2 r k) * KernelIdeal.Element.power (a (ix1 e))))
    (fun k => w (ix3 e k j)) (fun g => s (ix3 e g j)) * Ideal.ofBits .f32 (a (ix1 e))) 4 le_rfl = _
  rw [Rows.pick_eq]
  by_cases hk : Rows.count (ReferenceIdeal.Element.sizes gs) r.val < 4
  · rw [Rows.nth_of_lt _ _ _ _ hk, Rows.nth_of_lt _ _ _ _ hk, Rows.nth_of_lt _ _ _ _ hk]
    rw [show KernelIdeal.Element.power _ = _ from Scale.reciprocal_eq _ (ha _).1 (ha _).2]
  · have hk : 4 ≤ Rows.count (ReferenceIdeal.Element.sizes gs) r.val := not_lt.1 hk
    rw [Rows.nth_of_ge _ _ _ _ hk, Rows.nth_of_ge _ _ _ _ hk, Rows.nth_of_ge _ _ _ _ hk, mul_zero]

end Cert.Equation
-- ==== Proof.Precondition.lean ====
module

public import proofs.«01_k».proof.Defs
public import proofs.«01_k».proof.Proof.Scale
public import proofs.«01_k».proof.Proof.Rows
public import Idealize.ShloMosaic.Lib.ValueLayout
public import Idealize.ShloMosaic.Lib.WordCmp

/-! What the precondition says, in numbers. -/

@[expose] public section

noncomputable section

namespace Cert.Precondition

open Idealize.ShloMosaic Idealize.ShloMosaic.ValueIdx Idealize.ShloMosaic.WordCmp

/-- A word that is not negative as a signed number is the same unsigned number. -/
theorem nonneg (b : BitVec 32) (h : IntOp.cmpi .sge b 0#32 = 1#1) : b.toNat < 2 ^ 31 := by
  rw [cmpi_sge_eq, ofBool_decide_eq_one_iff] at h
  have e : (0#32 : BitVec 32).toInt = 0 := by decide
  rw [e, BitVec.toInt_eq_toNat_cond] at h
  split at h <;> omega

/-- Sizes and running sums that are not negative: the sum of the numbers is the number of the sum. -/
theorem fits (g : Fin 4 → BitVec 32) (h : ∀ e, IntOp.cmpi .sge (g e) 0#32 = 1#1) (h2 : IntOp.cmpi .sge (g 0 + g 1) 0#32 = 1#1)
    (h3 : IntOp.cmpi .sge (g 0 + g 1 + g 2) 0#32 = 1#1) (h4 : IntOp.cmpi .sge (g 0 + g 1 + g 2 + g 3) 0#32 = 1#1) : Rows.Fits g := by
  have n0 := nonneg _ (h 0)
  have n1 := nonneg _ (h 1)
  have n2 := nonneg _ (h 2)
  have n3 := nonneg _ (h 3)
  have s2 := nonneg _ h2
  have s3 := nonneg _ h3
  have s4 := nonneg _ h4
  have e2 := BitVec.toNat_add (g 0) (g 1)
  have e3 := BitVec.toNat_add (g 0 + g 1) (g 2)
  have e4 := BitVec.toNat_add (g 0 + g 1 + g 2) (g 3)
  show 0 + (g 0).toNat + (g 1).toNat + (g 2).toNat + (g 3).toNat < 2 ^ (32 - 1)
  omega

/-- A size read by itself. -/
theorem word_eq (x : IVec Pre_valid.S4 32) (k : Fin 4) (o : Fin 1 → ℕ) (ho : o 0 = k.val) (h : Pre_valid.S4.Slices o Pre_valid.S1)
    (hc : Pre_valid.S1.ShapeCasts Pre_valid.S_) : shapeCast Pre_valid.S_ (extractStridedSlice Pre_valid.S1 o x h) hc ix0 = x (ix1 k) := by
  have at_one (z : Pre_valid.S1.Idx) : extractStridedSlice Pre_valid.S1 o x h z = x (ix1 k) :=
    extractStridedSlice_apply _ _ h z (ix1 k) fun a => by
      match a with
      | ⟨0, _⟩ =>
        have hz : (z 0).val < 1 := (z 0).isLt
        show k.val = o 0 + (z 0).val
        omega
  unfold shapeCast
  exact at_one _

/-- The bounds on the exponent field, from those on the shifted and masked word. -/
theorem field_bounds (b : BitVec 32) (h0 : IntOp.cmpi .sge (b.sshiftRight' 23#32 &&& 255#32) 1#32 = 1#1)
    (h1 : IntOp.cmpi .sle (b.sshiftRight' 23#32 &&& 255#32) 253#32 = 1#1) :
    1 ≤ (Scale.field b).toNat ∧ (Scale.field b).toNat ≤ 253 := by
  rw [Scale.shift_mask] at h0 h1
  revert h0 h1
  generalize Scale.field b = f
  revert f
  decide +kernel

/-- Under the precondition no sum of the sizes overflows, and every scale's exponent field lies from 1 to 253. -/
theorem bounds (x0 : FVec Ideal Pre_valid.S2560x6144 .bf16) (x1 : IVec Pre_valid.S4 32) (x2 : IVec Pre_valid.S4x3072x2816 8)
    (x3 : FVec Ideal Pre_valid.S4x48x2816 .f32) (x4 : IVec Pre_valid.S4 32) [Pre_valid.Facts]
    (h : (Pre_valid.fn x0 x1 x2 x3 x4).1 = (fun _ => 1#1) ∧ (Pre_valid.fn x0 x1 x2 x3 x4).2.1 = (fun _ => 1#1)
      ∧ (Pre_valid.fn x0 x1 x2 x3 x4).2.2.1 = (fun _ => 1#1) ∧ (Pre_valid.fn x0 x1 x2 x3 x4).2.2.2.1 = (fun _ => 1#1)
      ∧ (Pre_valid.fn x0 x1 x2 x3 x4).2.2.2.2.1 = (fun _ => 1#1) ∧ (Pre_valid.fn x0 x1 x2 x3 x4).2.2.2.2.2 = (fun _ => 1#1)) :
    Rows.Fits (fun e => x1 (ix1 e)) ∧ ∀ e : Fin 4, 1 ≤ (Scale.field (x4 (ix1 e))).toNat ∧ (Scale.field (x4 (ix1 e))).toNat ≤ 253 := by
  obtain ⟨h1, h2, h3, h4, h5, h6⟩ := h
  refine ⟨fits _ (fun e => congrFun h1 (ix1 e)) ?_ ?_ ?_, fun e => field_bounds _ (congrFun h5 (ix1 e)) (congrFun h6 (ix1 e))⟩
  · simp only [← word_eq x1 0 ![0] rfl Pre_valid.Facts.slices_S4_S1_0 Pre_valid.Facts.shapeCasts_S1_S_,
      ← word_eq x1 1 ![1] rfl Pre_valid.Facts.slices_S4_S1_1 Pre_valid.Facts.shapeCasts_S1_S_]
    exact congrFun h2 ix0
  · simp only [← word_eq x1 0 ![0] rfl Pre_valid.Facts.slices_S4_S1_0 Pre_valid.Facts.shapeCasts_S1_S_,
      ← word_eq x1 1 ![1] rfl Pre_valid.Facts.slices_S4_S1_1 Pre_valid.Facts.shapeCasts_S1_S_,
      ← word_eq x1 2 ![2] rfl Pre_valid.Facts.slices_S4_S1_2 Pre_valid.Facts.shapeCasts_S1_S_]
    exact congrFun h3 ix0
  · simp only [← word_eq x1 0 ![0] rfl Pre_valid.Facts.slices_S4_S1_0 Pre_valid.Facts.shapeCasts_S1_S_,
      ← word_eq x1 1 ![1] rfl Pre_valid.Facts.slices_S4_S1_1 Pre_valid.Facts.shapeCasts_S1_S_,
      ← word_eq x1 2 ![2] rfl Pre_valid.Facts.slices_S4_S1_2 Pre_valid.Facts.shapeCasts_S1_S_,
      ← word_eq x1 3 ![3] rfl Pre_valid.Facts.slices_S4_S1_3 Pre_valid.Facts.shapeCasts_S1_S_]
    exact congrFun h4 ix0

end Cert.Precondition
-- ==== Proof.lean ====
module

public import proofs.«01_k».proof.Defs
public import proofs.«01_k».proof.Proof.Kernel.Body
public import proofs.«01_k».proof.Proof.Gen.ReferenceIdeal.Frame
public import proofs.«01_k».proof.Proof.Gen.Pre_valid
public import proofs.«01_k».proof.Proof.KernelIdeal.Array
public import proofs.«01_k».proof.Proof.ReferenceIdeal.Array
public import proofs.«01_k».proof.Proof.Equation
public import proofs.«01_k».proof.Proof.Precondition

/-! The claims, assembled: the three frames, the kernel's preservation under idealization, and the equality of the
kernel's result with the reference's over the extended reals. -/

@[expose] public section

noncomputable section

namespace Cert.Proof

open Idealize.ShloMosaic Idealize.ShloMosaic.TcCoe Idealize.SL.Sem Cert.Kernel

theorem claim : Cert.Claim := ⟨Cert.Kernel.Gen.facts, Cert.KernelIdeal.Gen.facts, Cert.ReferenceIdeal.Gen.facts, Cert.Pre_valid.Gen.facts,
  fun m ρ _ => Cert.Kernel.Body.frame m ρ, fun m ρ _ => Cert.KernelIdeal.Body.frame m ρ, fun m ρ _ => Cert.KernelIdeal.Body.frame m ρ,
  fun m ρ _ => Cert.ReferenceIdeal.Gen.frame m ρ, fun m ρ _ => Cert.ReferenceIdeal.Gen.frame m ρ, trivial, by
  intro m g m' g' hpre hargs
  have hb := fun (c : Dev Cert.KernelIdeal.nD) => @Cert.Precondition.bounds _ _ _ _ _ Cert.Pre_valid.Gen.facts (hpre c)
  refine ⟨fun c => Cert.KernelIdeal.Array.resultAt m c, Cert.KernelIdeal.Array.run m g (fun c => (hb c).1), ?_⟩
  refine (θ_run Cert.ReferenceIdeal.defs _ _).mono (fun r h c => ?_) (Cert.ReferenceIdeal.Array.run m' g')
  obtain ⟨hv, hrest⟩ := h c
  refine ⟨hv.trans ?_, hrest⟩
  obtain ⟨a0, a1, a2, a3, a4⟩ := hargs c
  unfold Cert.ReferenceIdeal.Array.resultAt
  rw [a0, a1, a2, a3, a4]
  exact (Cert.Equation.result_eq _ _ _ _ _ (hb c).1 (hb c).2).symm⟩

end Cert.Proof

end
